-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S8x512x32000 : Shape := ⟨3, ![8, 512, 32000]⟩
abbrev S8x512 : Shape := ⟨2, ![8, 512]⟩
abbrev S_ : Shape := ⟨0, ![]⟩

class Facts : Prop where
  bcast_S_S8x512 : S_.BroadcastsInDim S8x512 (![] : Fin 0 → Fin S8x512.rank)
  reducesTo_S8x512_S_d0_1 : S8x512.ReducesTo [0, 1] S_
  h_S_ : 0 < S_.numel

variable [Facts]

def fn {F : FTy → Type} [FloatOps F] (main_arg0 : FVec F S8x512x32000 .f32) (main_arg1 : IVec S8x512 32) (main_arg2 : FVec F S8x512 .f32) : IVec S_ 1 :=
  let main_c : IVec S_ 32 := constantI S_ 32 0#32
  let main_v0 : IVec S8x512 32 := broadcastInDim S8x512 ![] bcast_S_S8x512 main_c
  let main_v1 : IVec S8x512 1 := cmpi .sge main_arg1 main_v0
  let main_c_0 : IVec S_ 32 := constantI S_ 32 32000#32
  let main_v2 : IVec S8x512 32 := broadcastInDim S8x512 ![] bcast_S_S8x512 main_c_0
  let main_v3 : IVec S8x512 1 := cmpi .slt main_arg1 main_v2
  let main_v4 : IVec S8x512 1 := andi main_v1 main_v3
  let main_c_1 : IVec S_ 1 := constantI S_ 1 1#1
  let main_v5 : IVec S_ 1 := (fun x v => Host.reduce IntOp.andi x v reducesTo_S8x512_S_d0_1 h_S_) main_v4 main_c_1
  main_v5
-- ==== Pre_in_range_finite.lean ====
abbrev S8x512x32000 : Shape := ⟨3, ![8, 512, 32000]⟩
abbrev S8x512 : Shape := ⟨2, ![8, 512]⟩
abbrev S_ : Shape := ⟨0, ![]⟩

class Facts : Prop where
  bcast_S_S8x512 : S_.BroadcastsInDim S8x512 (![] : Fin 0 → Fin S8x512.rank)
  reducesTo_S8x512_S_d0_1 : S8x512.ReducesTo [0, 1] S_
  h_S_ : 0 < S_.numel
  bcast_S_S8x512x32000 : S_.BroadcastsInDim S8x512x32000 (![] : Fin 0 → Fin S8x512x32000.rank)
  reducesTo_S8x512x32000_S_d0_1_2 : S8x512x32000.ReducesTo [0, 1, 2] S_

variable [Facts]

def fn {F : FTy → Type} [FloatOps F] (main_arg0 : FVec F S8x512x32000 .f32) (main_arg1 : IVec S8x512 32) (main_arg2 : FVec F S8x512 .f32) : IVec S_ 1 :=
  let main_c : IVec S_ 32 := constantI S_ 32 0#32
  let main_v0 : IVec S8x512 32 := broadcastInDim S8x512 ![] bcast_S_S8x512 main_c
  let main_v1 : IVec S8x512 1 := cmpi .sge main_arg1 main_v0
  let main_c_0 : IVec S_ 32 := constantI S_ 32 32000#32
  let main_v2 : IVec S8x512 32 := broadcastInDim S8x512 ![] bcast_S_S8x512 main_c_0
  let main_v3 : IVec S8x512 1 := cmpi .slt main_arg1 main_v2
  let main_v4 : IVec S8x512 1 := andi main_v1 main_v3
  let main_c_1 : IVec S_ 1 := constantI S_ 1 1#1
  let main_v5 : IVec S_ 1 := (fun x v => Host.reduce IntOp.andi x v reducesTo_S8x512_S_d0_1 h_S_) main_v4 main_c_1
  let main_v6 : FVec F S8x512x32000 .f32 := Host.absf main_arg0
  let main_cst : FVec F S_ .f32 := constant S_ .f32 0x7F800000#32
  let main_v7 : FVec F S8x512x32000 .f32 := broadcastInDim S8x512x32000 ![] bcast_S_S8x512x32000 main_cst
  let main_v8 : IVec S8x512x32000 1 := cmpf .olt main_v6 main_v7
  let main_c_2 : IVec S_ 1 := constantI S_ 1 1#1
  let main_v9 : IVec S_ 1 := (fun x v => Host.reduce IntOp.andi x v reducesTo_S8x512x32000_S_d0_1_2 h_S_) main_v8 main_c_2
  let main_v10 : IVec S_ 1 := andi main_v5 main_v9
  let main_v11 : FVec F S8x512 .f32 := Host.absf main_arg2
  let main_cst_3 : FVec F S_ .f32 := constant S_ .f32 0x7F800000#32
  let main_v12 : FVec F S8x512 .f32 := broadcastInDim S8x512 ![] bcast_S_S8x512 main_cst_3
  let main_v13 : IVec S8x512 1 := cmpf .olt main_v11 main_v12
  let main_c_4 : IVec S_ 1 := constantI S_ 1 1#1
  let main_v14 : IVec S_ 1 := (fun x v => Host.reduce IntOp.andi x v reducesTo_S8x512_S_d0_1 h_S_) main_v13 main_c_4
  let main_v15 : IVec S_ 1 := andi main_v10 main_v14
  main_v15
-- ==== Kernel.lean ====
abbrev S8x512x32000 : Shape := ⟨3, ![8, 512, 32000]⟩
abbrev S8x512 : Shape := ⟨2, ![8, 512]⟩
abbrev S131072000 : Shape := ⟨1, ![131072000]⟩
abbrev S4096 : Shape := ⟨1, ![4096]⟩
abbrev S32x2x16 : Shape := ⟨3, ![32, 2, 16]⟩
abbrev S128 : Shape := ⟨1, ![128]⟩
abbrev S2x16 : Shape := ⟨2, ![2, 16]⟩
abbrev S_ : Shape := ⟨0, ![]⟩
abbrev S16 : Shape := ⟨1, ![16]⟩
abbrev S1x16 : Shape := ⟨2, ![1, 16]⟩
abbrev S1x2x16 : Shape := ⟨3, ![1, 2, 16]⟩
abbrev S1x1 : Shape := ⟨2, ![1, 1]⟩
abbrev S32x1x16 : Shape := ⟨3, ![32, 1, 16]⟩
abbrev S32x16 : Shape := ⟨2, ![32, 16]⟩
abbrev S1x32x16 : Shape := ⟨3, ![1, 32, 16]⟩
abbrev S1 : Shape := ⟨1, ![1]⟩
abbrev S1x1x1 : Shape := ⟨3, ![1, 1, 1]⟩

abbrev nBuf : Table → Nat
  | .hbm => 9
  | .local .tc .vmem => 2
  | .local .scVector .vmem => 4
  | _ => 0

abbrev bufTy : (tb : Table) → Fin (nBuf tb) → BufTy
  | .hbm, ⟨0, _⟩ => ⟨S8x512x32000, .f32⟩
  | .hbm, ⟨1, _⟩ => ⟨S8x512, .i32⟩
  | .hbm, ⟨2, _⟩ => ⟨S8x512, .f32⟩
  | .hbm, ⟨3, _⟩ => ⟨S131072000, .f32⟩
  | .hbm, ⟨4, _⟩ => ⟨S4096, .i32⟩
  | .hbm, ⟨5, _⟩ => ⟨S4096, .f32⟩
  | .hbm, ⟨6, _⟩ => ⟨S32x2x16, .f32⟩
  | .hbm, ⟨7, _⟩ => ⟨S1x1, .f32⟩
  | .hbm, ⟨8, _⟩ => ⟨S_, .f32⟩
  | .local .tc .vmem, ⟨0, _⟩ => ⟨S32x2x16, .f32⟩
  | .local .tc .vmem, ⟨1, _⟩ => ⟨S1x1, .f32⟩
  | .local .scVector .vmem, ⟨0, _⟩ => ⟨S128, .i32⟩
  | .local .scVector .vmem, ⟨1, _⟩ => ⟨S128, .f32⟩
  | .local .scVector .vmem, ⟨2, _⟩ => ⟨S128, .f32⟩
  | .local .scVector .vmem, ⟨3, _⟩ => ⟨S2x16, .f32⟩
  | _, _ => ⟨S8x512x32000, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev main_v3_scv : Ref sig .scVector := ⟨.hbm, 6, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem1_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_45_r2 : BitVec 32 := 0#32
  let c0_i32_46_r2 : BitVec 32 := 0#32
  ![v1.toNat, 0, 0]
abbrev grid1 : Pipeline.Grid := .none

abbrev stage1_0 : Fin 1 → Memref sig .tc .vmem S32x2x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x512x32000 : Shape := ⟨3, ![8, 512, 32000]⟩
abbrev S8x512 : Shape := ⟨2, ![8, 512]⟩
abbrev S8x512x1 : Shape := ⟨3, ![8, 512, 1]⟩
abbrev S_ : Shape := ⟨0, ![]⟩
abbrev S8x512x1x1 : Shape := ⟨4, ![8, 512, 1, 1]⟩
abbrev S1 : Shape := ⟨1, ![1]⟩
abbrev S1x1x1x1 : Shape := ⟨4, ![1, 1, 1, 1]⟩

abbrev nBuf : Space → Nat
  | .hbm => 36
  | .vmem => 0
  | .smem => 0
  | _ => 0

abbrev bufTy : (tb : Table) → Fin (tcTables nBuf tb) → BufTy
  | .hbm, ⟨0, _⟩ => ⟨S8x512x32000, .f32⟩
  | .hbm, ⟨1, _⟩ => ⟨S8x512, .i32⟩
  | .hbm, ⟨2, _⟩ => ⟨S8x512, .f32⟩
  | .hbm, ⟨3, _⟩ => ⟨S8x512x1, .i32⟩
  | .hbm, ⟨4, _⟩ => ⟨S_, .i32⟩
  | .hbm, ⟨5, _⟩ => ⟨S8x512x1, .i32⟩
  | .hbm, ⟨6, _⟩ => ⟨S8x512x1, .i1⟩
  | .hbm, ⟨7, _⟩ => ⟨S_, .i32⟩
  | .hbm, ⟨8, _⟩ => ⟨S8x512x1, .i32⟩
  | .hbm, ⟨9, _⟩ => ⟨S8x512x1, .i32⟩
  | .hbm, ⟨10, _⟩ => ⟨S8x512x1, .i32⟩
  | .hbm, ⟨11, _⟩ => ⟨S8x512x1x1, .i32⟩
  | .hbm, ⟨12, _⟩ => ⟨S1, .i32⟩
  | .hbm, ⟨13, _⟩ => ⟨S_, .i32⟩
  | .hbm, ⟨14, _⟩ => ⟨S8x512x1x1, .i32⟩
  | .hbm, ⟨15, _⟩ => ⟨S8x512x1x1, .i1⟩
  | .hbm, ⟨16, _⟩ => ⟨S1x1x1x1, .i32⟩
  | .hbm, ⟨17, _⟩ => ⟨S8x512x1x1, .i32⟩
  | .hbm, ⟨18, _⟩ => ⟨S8x512x1x1, .i1⟩
  | .hbm, ⟨19, _⟩ => ⟨S8x512x1x1, .i1⟩
  | .hbm, ⟨20, _⟩ => ⟨S_, .i1⟩
  | .hbm, ⟨21, _⟩ => ⟨S8x512x1, .i1⟩
  | .hbm, ⟨22, _⟩ => ⟨S8x512x1, .f32⟩
  | .hbm, ⟨23, _⟩ => ⟨S_, .f32⟩
  | .hbm, ⟨24, _⟩ => ⟨S8x512x1, .f32⟩
  | .hbm, ⟨25, _⟩ => ⟨S8x512x1, .f32⟩
  | .hbm, ⟨26, _⟩ => ⟨S8x512, .f32⟩
  | .hbm, ⟨27, _⟩ => ⟨S8x512, .f32⟩
  | .hbm, ⟨28, _⟩ => ⟨S8x512, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S8x512x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_cst : Ref sig .tc := ⟨.hbm, 29, rfl⟩
abbrev main_v5 : Ref sig .tc := ⟨.hbm, 30, rfl⟩
abbrev main_cst_0 : Ref sig .tc := ⟨.hbm, 31, rfl⟩
abbrev main_v6 : Ref sig .tc := ⟨.hbm, 32, rfl⟩
abbrev main_cst_1 : Ref sig .tc := ⟨.hbm, 33, rfl⟩
abbrev main_v7 : Ref sig .tc := ⟨.hbm, 34, rfl⟩
abbrev main_v8 : Ref sig .tc := ⟨.hbm, 35, rfl⟩

abbrev nD : Nat := 1
abbrev τ : Topo := Topo.v7x

variable {F : FTy → Type} [FloatOps F]
-- ==== Proof.TileIdeal.lean ====
/-
  The SparseCore part of the kernel: one task per (SparseCore, vector subcore) pair. What each task is handed, what it
  leaves in its row of the partial sums, and the launch's split of the operands between the thirty-two tasks.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.ShareLeaves
public import Idealize.ShloMosaic.Lib.Writes
public import Idealize.ShloMosaic.Lib.Tactic
public import proofs.«01_k».proof.Proof.Gen.KernelIdeal
public import proofs.«01_k».proof.Proof.Gen.KernelIdeal.Skeleton

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The names of the program's callable bodies and pipelines. -/
abbrev ΛP : Labels := Pipeline.Sig Λ₀ (Fin 1) fun p => (pcfgs (F := F) p).Adm
/-- The SparseCore call. -/
abbrev K : SparseCore.Cfg τ sig (ΛP (F := F)) 1 := sc (F := F)
/-- The definitions beside it. -/
abbrev D [FloatOps F] : Defs nD τ sig (Elt F) (ΛP (F := F)) := Pipeline.defs pcfgs defs₀
/-- No loop here needs a measure of its own. -/
abbrev 𝒱₀ : Variants := Variants.none
/-- The same for the program with its pipelines. -/
abbrev 𝒱 : Variants := 𝒱₀.lift
/-- The measure that every thread starts from. -/
abbrev v₀ : 𝒱.V := Sum.inl none

/-- The launch's side conditions on the semaphores and the shared memory. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

/-- The handshakes' rounds. -/
abbrev UH : Type := URounds (GSem nD τ sig) ℕ
/-- The pipeline's rounds. -/
abbrev UP : Type := URounds (GSem nD τ sig) Unit
/-- Both, with the counters of the transfers. -/
abbrev UU : Type := UH × (UP × Counters)

local notation "𝕄" => MT nD τ sig (HIx 1) (Elt F) ℕ UU ℕ

/-- Where the handshakes' rounds live. -/
abbrev EH : Emb UH (MT nD τ sig (HIx 1) (Elt F) ℕ UU ℕ) := embL

/-! ## The buffers -/

/-- The flattened table, -/
abbrev tLoc (d : Dev nD) : Loc nD τ sig := (SparseCore.T d).loc main_v0
/-- the flattened targets, -/
abbrev gLoc (d : Dev nD) : Loc nD τ sig := (SparseCore.T d).loc main_v1
/-- the flattened mask -/
abbrev kLoc (d : Dev nD) : Loc nD τ sig := (SparseCore.T d).loc main_v2
/-- and the partial sums. -/
abbrev oLoc (d : Dev nD) : Loc nD τ sig := (SparseCore.T d).loc main_v3

/-- The table as the tasks address it, -/
abbrev tV : Memref sig .scVector .hbm S131072000 .f32 := Memref.whole main_v0_scv
/-- the targets, -/
abbrev gV : Memref sig .scVector .hbm S4096 .i32 := Memref.whole main_v1_scv
/-- the mask -/
abbrev kV : Memref sig .scVector .hbm S4096 .f32 := Memref.whole main_v2_scv
/-- and the partial sums; -/
abbrev oV : Memref sig .scVector .hbm S32x2x16 .f32 := Memref.whole main_v3_scv
/-- a task's list of words, -/
abbrev s0V : Memref sig .scVector .vmem S128 .i32 := Memref.whole cc0_scratch0
/-- its mask, -/
abbrev s1V : Memref sig .scVector .vmem S128 .f32 := Memref.whole cc0_scratch1
/-- what it finds -/
abbrev s2V : Memref sig .scVector .vmem S128 .f32 := Memref.whole cc0_scratch2
/-- and its row of the partial sums. -/
abbrev s3V : Memref sig .scVector .vmem S2x16 .f32 := Memref.whole cc0_scratch3

/-- The partial sums divide into 32 rows. -/
theorem odiv : 32 ∣ S32x2x16.size 0 := ⟨1, rfl⟩
/-- Row `w` of the partial sums. -/
abbrev orow (w : Fin 32) : Rect S32x2x16 := Rect.part (s := S32x2x16) (a₀ := 0) odiv w
/-- The places of row `w`. -/
abbrev oRowSet (w : Fin 32) : Finset S32x2x16.Idx := ((oV).view.slice (orow w)).set

/-! ## What a task computes -/

section Values

variable [FloatOps F] (tb : S131072000.Idx → Elt F .f32) (tg : S4096.Idx → Elt F .i32) (mk : S4096.Idx → Elt F .f32)

/-- Position `128 w + j` of the flattened targets. -/
def pos (w : Fin 32) (j : Fin 128) : S4096.Idx := fun | 0 => ⟨128 * w.val + j.val, by show _ < 4096; omega⟩

/-- The word task `w` looks up at its place `j`: row `128 w + j` of the table, column the target. -/
def word (w : Fin 32) (j : Fin 128) : BitVec 32 := BitVec.ofNat 32 (128 * w.val + j.val) * 32000#32 + tg (pos w j)

/-- What it finds there. -/
def found (w : Fin 32) (j : Fin 128) : Elt F .f32 := tb fun | 0 => ⟨(word tg w j).toNat % 131072000, Nat.mod_lt _ (by decide)⟩

/-- Place `16 k + l` of a task's 128. -/
def place (k : Fin 8) (l : Fin 16) : Fin 128 := ⟨16 * k.val + l.val, by omega⟩

/-- Eight values added in order, from zero. -/
def chain8 (f : Fin 8 → F .f32) : F .f32 :=
  FloatOps.addf (FloatOps.addf (FloatOps.addf (FloatOps.addf (FloatOps.addf (FloatOps.addf (FloatOps.addf (FloatOps.addf
    (Scalar.ofBits .f32 0x00000000#32) (f 0)) (f 1)) (f 2)) (f 3)) (f 4)) (f 5)) (f 6)) (f 7)

/-- The partial sums: row `w`, lane `l`, of the products (0) and of the mask (1). -/
def parts : S32x2x16.Idx → Elt F .f32 := fun x =>
  if (x 1).val = 0 then chain8 fun k => FloatOps.mulf (found (F := F) tb tg (x 0) (place k (x 2))) (mk (pos (x 0) (place k (x 2))))
  else chain8 fun k => mk (pos (x 0) (place k (x 2)))

end Values

/-! ## What the handshakes carry -/

section Carry

variable [FloatOps F]
variable (tb : (d : Dev nD) → Buf (Elt F) (tLoc d)) (tg : (d : Dev nD) → Buf (Elt F) (gLoc d)) (mk : (d : Dev nD) → Buf (Elt F) (kLoc d))
  (ob : (d : Dev nD) → Buf (Elt F) (oLoc d))

/-- Task `w`'s share of the operands that every task reads. -/
abbrev shr (w : Fin 32) : PosShare TreeShare := leaf 5 fullShare w

/-- A task's operands: its shares of the table, the targets and the mask; its row of the partial sums, at `f`. -/
abbrev taskPts (d : Dev nD) (w : Fin 32) (f : Buf (Elt F) (oLoc d)) : sProp 𝕄 :=
  iprop((tLoc d ↦{shr w} tb d) ∗ (gLoc d ↦{shr w} tg d) ∗ (kLoc d ↦{shr w} mk d) ∗ oLoc d ↦[oRowSet w]{fullShare} f)

/-- The number of the task on SparseCore `c`, vector subcore `i`. -/
def wid (c : Fin 2) (i : Fin 16) : Fin 32 := ⟨2 * i.val + c.val, by omega⟩

/-- What the tasks leave in the partial sums. -/
abbrev sums (d : Dev nD) : Buf (Elt F) (oLoc d) := parts (F := F) (tb d) (tg d) (mk d)

/-- The call runs on two SparseCores, -/
theorem nCore_zero : (K (F := F)).nCore 0 = 2 := rfl
/-- on sixteen vector subcores of each. -/
theorem nSub_zero : (K (F := F)).nSub 0 = 16 := rfl

/-- Each task takes its operands and gives them back, its row holding its partial sums; a SparseCore takes its tasks'
    operands side by side. -/
def P : (K (F := F)).Pay (nD := nD) (Val := Elt F) (Name := ℕ) (U := UU) where
  st := fun q d c => match q with | 0 => bigSep Finset.univ fun i : Fin 16 => taskPts tb tg mk d (wid (Fin.cast nCore_zero c) i) (ob d)
  dn := fun q d c => match q with | 0 => bigSep Finset.univ fun i : Fin 16 => taskPts tb tg mk d (wid (Fin.cast nCore_zero c) i) (sums tb tg mk d)
  go := fun q d c i => match q with | 0 => taskPts tb tg mk d (wid (Fin.cast nCore_zero c) (Fin.cast nSub_zero i)) (ob d)
  td := fun q d c i => match q with | 0 => taskPts tb tg mk d (wid (Fin.cast nCore_zero c) (Fin.cast nSub_zero i)) (sums tb tg mk d)
  x := fun _ _ => iprop(emp)

/-- What the handshakes carry can be kept in an invariant. -/
instance P_storable : (P (F := F) tb tg mk ob).IsStorable where
  st q d c := match q with
    | 0 => (inferInstance : BI.Storable (upEmb : UEmb _ 𝕄) (bigSep Finset.univ fun i : Fin 16 => taskPts tb tg mk d (wid (Fin.cast nCore_zero c) i) (ob d)))
  dn q d c := match q with
    | 0 => (inferInstance : BI.Storable (upEmb : UEmb _ 𝕄) (bigSep Finset.univ fun i : Fin 16 => taskPts tb tg mk d (wid (Fin.cast nCore_zero c) i) (sums tb tg mk d)))
  go q d c i := match q with
    | 0 => (inferInstance : BI.Storable (upEmb : UEmb _ 𝕄) (taskPts tb tg mk d (wid (Fin.cast nCore_zero c) (Fin.cast nSub_zero i)) (ob d)))
  td q d c i := match q with
    | 0 => (inferInstance : BI.Storable (upEmb : UEmb _ 𝕄) (taskPts tb tg mk d (wid (Fin.cast nCore_zero c) (Fin.cast nSub_zero i)) (sums tb tg mk d)))

/-- What the proof asks of the targets: every word below 32000, a column of the table. -/
def InRange : Prop := ∀ (d : Dev nD) (j : S4096.Idx), (tg d j : BitVec 32).toNat < 32000

/-- A SparseCore's operands are its tasks' side by side, before and after. -/
theorem vecSplit : (K (F := F)).VecSplit' (P tb tg mk ob) 0 := by
  intro d c
  show (bigSep Finset.univ fun i : Fin 16 => taskPts tb tg mk d (wid (Fin.cast nCore_zero c) i) (ob d)) ⊢ |={Set.univ}=> iprop(
      (bigSep Finset.univ fun i : Fin 16 => taskPts tb tg mk d (wid (Fin.cast nCore_zero c) i) (ob d))
      ∗ ((bigSep Finset.univ fun i : Fin 16 => taskPts tb tg mk d (wid (Fin.cast nCore_zero c) i) (sums tb tg mk d))
          -∗ (bigSep Finset.univ fun i : Fin 16 => taskPts tb tg mk d (wid (Fin.cast nCore_zero c) i) (sums tb tg mk d))))
  iintro H; imodintro
  isplitl [H]; · iexact H
  iintro H; iexact H

end Carry

/-! ## The task -/

section Tile

variable [FloatOps F]
variable (tb : (d : Dev nD) → Buf (Elt F) (tLoc d)) (tg : (d : Dev nD) → Buf (Elt F) (gLoc d)) (mk : (d : Dev nD) → Buf (Elt F) (kLoc d))
  (ob : (d : Dev nD) → Buf (Elt F) (oLoc d))
variable (d : Dev nD) (L : grid0.Coords)

/-- The task's SparseCore -/
abbrev cV (L : grid0.Coords) : Fin τ.nSC := (L 0).castLE hcore0
/-- and its vector subcore. -/
abbrev jV (L : grid0.Coords) : Fin τ.nSub := (L 1).castLE hsub0
/-- The task's number. -/
abbrev wL (L : grid0.Coords) : Fin 32 := wid (L 0) (L 1)

/-- The task's row of the partial sums, as the task computes its offset. -/
abbrev orowK (L : grid0.Coords) : Rect S32x2x16 := Rect.unit (s := S32x2x16) (k0_off2 L) S1x2x16.size (k0_off2_inb L)
/-- The same row, squeezed, as the task addresses it. -/
abbrev oRowK (L : grid0.Coords) : Memref sig .scVector .hbm S2x16 .f32 := ((oV).slice (orowK L) (fun _ => rfl)).squeeze S2x16 squeezes_S1x2x16_S2x16
/-- The whole table, as the gather addresses it. -/
abbrev tAllK : Memref sig .scVector .hbm S131072000 .f32 :=
  (tV).slice (Rect.unit (s := S131072000) ![0] S131072000.size inb_S131072000_S131072000_0) (fun _ => rfl)

omit [FloatOps F] in
/-- It is the row of the task's number; -/
theorem orowK_eq : orowK L = orow (wL L) := by
  unfold orowK orow Rect.part Rect.block
  congr 1 <;> funext a
  · rw [k0_off2_eq]
    match a with
    | 0 => simp [Shape.partIx, Shape.partSize, wL, wid]
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
/-- so the task addresses the places of that row, -/
theorem set_oRowK : (oRowK L).view.set = oRowSet (wL L) := by
  show (((oV).view.slice (orowK L)).reshape S2x16 squeezes_S1x2x16_S2x16.numel_eq).set = ((oV).view.slice (orow (wL L))).set
  rw [View.set_reshape]
  exact orowK_eq L ▸ rfl

omit [FloatOps F] in
/-- and holding the one is holding the other. -/
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]

/-- A transfer's semaphore on a task's subcore. -/
abbrev cell (d : Dev nD) (c : Fin τ.nSC) (i : Fin τ.nSub) (s : DmaSem sig) : GSem nD τ sig := (V d c i, .dma s)

omit [FloatOps F] in
/-- A task's four transfer semaphores out of those it owns. -/
theorem ownSems0_V :
    (ownSems0 (V d (cV L) (jV L)) : sProp 𝕄)
      = iprop(semVal (cell d (cV L) (jV L) cc0_scratch4.sem) 0 ∗ semVal (cell d (cV L) (jV L) cc0_scoped0.sem) 0
          ∗ semVal (cell d (cV L) (jV L) cc0_scoped1.sem) 0 ∗ semVal (cell d (cV L) (jV L) cc0_scoped2.sem) 0
          ∗ bigSep (((((ownCells (V d (cV L) (jV L))).erase (cell d (cV L) (jV L) cc0_scratch4.sem)).erase (cell d (cV L) (jV L) cc0_scoped0.sem)).erase
              (cell d (cV L) (jV L) cc0_scoped1.sem)).erase (cell d (cV L) (jV L) cc0_scoped2.sem)) fun g => semVal g 0) := by
  have hm : ∀ s : DmaSem sig, (SemLoc.dma s : SemLoc sig).isScoped .scVector = true → cell d (cV L) (jV L) s ∈ ownCells (V d (cV L) (jV L)) :=
    fun s h => (mem_ownCells (g := cell d (cV L) (jV L) s)).mpr ⟨rfl, h⟩
  have hne : ∀ s t : DmaSem sig, s ≠ t → cell d (cV L) (jV L) s ≠ cell d (cV L) (jV L) t :=
    fun s t h e => h (SemLoc.dma.inj (Prod.mk.inj e).2)
  unfold SparseCore.Cfg.ownSems0
  rw [SparseCore.bigSep_erase' (hm cc0_scratch4.sem (by decide)),
    SparseCore.bigSep_erase' (Finset.mem_erase.mpr ⟨hne _ _ (by decide), hm cc0_scoped0.sem (by decide)⟩),
    SparseCore.bigSep_erase' (Finset.mem_erase.mpr ⟨hne _ _ (by decide), Finset.mem_erase.mpr ⟨hne _ _ (by decide), hm cc0_scoped1.sem (by decide)⟩⟩),
    SparseCore.bigSep_erase' (Finset.mem_erase.mpr ⟨hne _ _ (by decide), Finset.mem_erase.mpr ⟨hne _ _ (by decide),
      Finset.mem_erase.mpr ⟨hne _ _ (by decide), hm cc0_scoped2.sem (by decide)⟩⟩⟩)]

/-- A task's scratch buffer, among the buffers of the device. -/
abbrev sref (L : grid0.Coords) (b : Ref sig .scVector) : DevRef τ sig := (Proc.scVector (cV L) (jV L)).devRef b

omit [FloatOps F] in
/-- A task's four scratch buffers out of those it owns, each at some contents. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (sref L cc0_scratch0)).erase (sref L cc0_scratch1)).erase
              (sref L cc0_scratch2)).erase (sref L cc0_scratch3))
              fun b => iprop(∃ f, ((d, b) : Loc nD τ sig) ↦{fullShare} f)) := by
  have hm : ∀ b : Ref sig .scVector, (sref L b).owner = .proc (.scVector (cV L) (jV L)) → sref L b ∈ ownRefs (τ := τ) (.scVector (cV L) (jV L)) :=
    fun b h => SparseCore.Cfg.mem_ownRefs_of_owner (p := Proc.scVector (cV L) (jV L)) h
  have hne : ∀ a b : Ref sig .scVector, a ≠ b → sref L a ≠ sref L b := fun a b h e => h (Proc.devRef_injective _ e)
  unfold SparseCore.Cfg.ownBufs
  refine (SparseCore.bigSep_erase' (hm cc0_scratch0 rfl)).trans ?_
  rw [SparseCore.bigSep_erase' (Finset.mem_erase.mpr ⟨hne _ _ (by decide), hm cc0_scratch1 rfl⟩),
    SparseCore.bigSep_erase' (Finset.mem_erase.mpr ⟨hne _ _ (by decide), Finset.mem_erase.mpr ⟨hne _ _ (by decide), hm cc0_scratch2 rfl⟩⟩),
    SparseCore.bigSep_erase' (Finset.mem_erase.mpr ⟨hne _ _ (by decide), Finset.mem_erase.mpr ⟨hne _ _ (by decide),
      Finset.mem_erase.mpr ⟨hne _ _ (by decide), hm cc0_scratch3 rfl⟩⟩⟩)]

/-! ### The contents of a task's scratch buffers -/

/-- The words of the list, at the task's 128 places. -/
def words (tg : S4096.Idx → Elt F .i32) (w : Fin 32) : S128.Idx → Elt F .i32 := fun y => word (F := F) tg w (y 0)
/-- What the gather brings, at the task's 128 places. -/
def founds (tb : S131072000.Idx → Elt F .f32) (tg : S4096.Idx → Elt F .i32) (w : Fin 32) : S128.Idx → Elt F .f32 := fun y => found tb tg w (y 0)
/-- A task's 128 values of a flattened array. -/
def slab {e : EltTy} (f : S4096.Idx → Elt F e) (w : Fin 32) : S128.Idx → Elt F e := fun y => f (pos w (y 0))

/-- A task's 128 entries of the flattened targets, or of the flattened mask. -/
abbrev part128 (L : grid0.Coords) : Rect S4096 := Rect.unit (s := S4096) (k0_off1 L) S128.size (k0_off1_inb L)

/-- Where a unit-stride rectangle places an index. -/
theorem emb_unit (s : Shape) (off size : Fin s.rank → ℕ) (h : ∀ a, off a + size a ≤ s.size a) (x : (Rect.unit (s := s) off size h).shape.Idx) (a : Fin s.rank) :
    ((Rect.unit (s := s) off size h).emb x a).val = off a + (x a).val := by
  show off a + 1 * (x a).val = _
  rw [Nat.one_mul]

omit [FloatOps F] in
/-- The task's `y`-th entry is at position `128 w + y`; -/
theorem emb_part128 (y : S128.Idx) : (part128 L).emb y = pos (wL L) (y 0) := by
  refine Rect.emb_eq_of_coords _ _ _ fun a => ?_
  match a with
  | 0 => simp [Rect.unit, k0_off1_eq, pos, wL, wid]; omega

omit [FloatOps F] in
/-- so the copies bring its 128 targets -/
theorem read_targets : View.read (Elt F) ((gV).slice (part128 L) (fun _ => rfl)).view (tg d) = slab (F := F) (e := .i32) (tg d) (wL L) := by
  funext y
  refine ((View.read_apply _ _).trans (cast_eq _ _)).trans ?_
  exact congrArg (tg d) (emb_part128 L y)

omit [FloatOps F] in
/-- and its 128 values of the mask. -/
theorem read_mask : View.read (Elt F) ((kV).slice (part128 L) (fun _ => rfl)).view (mk d) = slab (F := F) (e := .f32) (mk d) (wL L) := by
  funext y
  refine ((View.read_apply _ _).trans (cast_eq _ _)).trans ?_
  exact congrArg (mk d) (emb_part128 L y)

/-- Sixteen places of the list from place `o` on: the flattened positions times the width of the table, plus the targets. -/
def lookup (L : grid0.Coords) (o : BitVec 32) (v : Vec F S16 .i32) : IVec S16 32 :=
  shapeCast S16 (addi (muli (addi (broadcast S16 (Scalar.addi (Scalar.muli (Scalar.addi (Scalar.muli (BitVec.ofNat 32 (L 1).val) 2#32) (BitVec.ofNat 32 (L 0).val)) 128#32) o))
    (iota .scVector S16 32 [0] iota_S16_d0_w32_scVector)) (broadcast S16 32000#32)) (shapeCast S16 v shapeCasts_S16_S16)) shapeCasts_S16_S16

omit [FloatOps F] in
/-- Sixteen places of the list, computed from the staged targets, are the words of those places. -/
theorem lane_word (o : ℕ) (h : ∀ a, (![o] : Fin 1 → ℕ) a + S16.size a ≤ S128.size a) (g : S4096.Idx → Elt F .i32)
    {f : S128.Idx → Elt F .i32} (hf : f = slab (F := F) (e := .i32) g (wL L)) (x : S16.Idx) :
    lookup (F := F) L (BitVec.ofNat 32 o) (View.readAt (Elt F) (s0V).view (Rect.unit (s := S128) ![o] S16.size h).toLoadRect f) x
      = words (F := F) g (wL L) ((Rect.unit (s := S128) ![o] S16.size h).emb x) := by
  subst hf
  unfold lookup
  rw [shapeCast_self, shapeCast_self]
  show IntOp.addi (IntOp.muli (IntOp.addi _ (iota .scVector S16 32 [0] iota_S16_d0_w32_scVector x)) 32000#32) (g (pos (wL L) _)) = _
  rw [iota_single_apply]
  have hx : (x 0).val < 16 := (x 0).isLt
  have h0 : (L 0).val < 2 := (L 0).isLt
  have h1 : (L 1).val < 16 := (L 1).isLt
  have ho : o + 16 ≤ 128 := h 0
  have e : ((Rect.unit (s := S128) ![o] S16.size h).emb x 0).val = o + (x 0).val := emb_unit S128 ![o] S16.size h x 0
  show _ = word (F := F) g (wL L) ((Rect.unit (s := S128) ![o] S16.size h).emb x 0)
  unfold word
  refine congrArg (fun z : BitVec 32 => z * 32000#32 + (g (pos (wL L) ((Rect.unit (s := S128) ![o] S16.size h).emb x 0)) : BitVec 32)) ?_
  rw [e]
  simp only [wL, wid, broadcast, IntOp.addi, Scalar.addi, Scalar.muli, IntOp.muli, ← BitVec.ofNat_add, ← BitVec.ofNat_mul]
  exact congrArg (BitVec.ofNat 32) (by omega)

/-- Sixteen places of a task's 128, from place `16 k` on. -/
abbrev lane16 (k : Fin 8) : Rect S128 := Rect.unit (s := S128) ![16 * k.val] S16.size fun | 0 => by show 16 * k.val + 16 ≤ 128; omega

/-- Lane `y` of the `k`-th sixteen is place `16 k + y`. -/
theorem emb_lane16 (k : Fin 8) (y : S16.Idx) : (lane16 k).emb y = fun | 0 => place k (y 0) := by
  funext a
  match a with
  | 0 => exact Fin.ext (emb_unit S128 _ _ _ y 0)

/-- Lane `x` of the products' row, from the eight pairs of sixteen values. -/
theorem row_products (g m : Fin 8 → Vec F S16 .f32) (x : S1x16.Idx) :
    k0_pay1 (k0_pay16 (k0_pay13 (g 0) (m 0)) (k0_pay15 (g 1)) (m 1) (g 2) (m 2) (g 3) (m 3) (g 4) (m 4) (g 5) (m 5)) (k0_pay18 (g 6)) (m 6) (g 7) (m 7) x
      = chain8 fun k => FloatOps.mulf (g k fun a => x a.succ) (m k fun a => x a.succ) := by
  unfold k0_pay1 k0_pay16 k0_pay13 k0_pay15 k0_pay18
  simp only [shapeCast_self]
  exact shapeCast_addUnit_apply ![16] _ _ x

/-- Lane `x` of the mask's row. -/
theorem row_mask (m : Fin 8 → Vec F S16 .f32) (x : S1x16.Idx) :
    k0_pay2 (k0_pay17 (k0_pay14 (m 0)) (m 1) (m 2) (m 3) (m 4) (m 5)) (m 6) (m 7) x = chain8 fun k => m k fun a => x a.succ := by
  unfold k0_pay2 k0_pay17 k0_pay14
  simp only [shapeCast_self]
  exact shapeCast_addUnit_apply ![16] _ _ x

/-- Place `y` of a task's row among the partial sums. -/
def inRow (w : Fin 32) (y : S2x16.Idx) : S32x2x16.Idx := fun | 0 => w | 1 => y 0 | 2 => y 1

omit [FloatOps F] in
/-- Place `y` of the task's row, as the task addresses it, is that place among the partial sums. -/
theorem emb_oRowK (y : S2x16.Idx) : (oRowK L).view.emb y = inRow (wL L) y := by
  show (orowK L).emb (Shape.reshapeEquiv squeezes_S1x2x16_S2x16.numel_eq y) = _
  rw [show Shape.reshapeEquiv squeezes_S1x2x16_S2x16.numel_eq y = (Fin.cons ⟨0, Nat.one_pos⟩ y : S1x2x16.Idx) from
    Shape.reshapeEquiv_cons_one (d := ![2, 16]) _ y]
  refine Rect.emb_eq_of_coords _ _ _ fun a => ?_
  match a with
  | 0 => simp [Rect.unit, k0_off2_eq, inRow, wL, wid]; rfl
  | 1 => simp [Rect.unit, k0_off2_eq, inRow]; rfl
  | 2 => simp [Rect.unit, k0_off2_eq, inRow]; rfl

/-- The products' row that a task computes is its first row of the partial sums, -/
theorem parts_products (x : S1x16.Idx) :
    (chain8 fun k => FloatOps.mulf (founds (F := F) (tb d) (tg d) (wL L) ((lane16 k).emb fun a => x a.succ)) (slab (F := F) (e := .f32) (mk d) (wL L) ((lane16 k).emb fun a => x a.succ)))
      = sums tb tg mk d (inRow (wL L) ((Rect.unit (s := S2x16) ![0, 0] S1x16.size inb_S2x16_S1x16_0_0).emb x)) := by
  have h0 : (x 0).val = 0 := by have : (x 0).val < 1 := (x 0).isLt; omega
  have e (a : Fin 2) := emb_unit S2x16 ![0, 0] S1x16.size inb_S2x16_S1x16_0_0 x a
  have hl (k : Fin 8) : ((lane16 k).emb fun a => x a.succ) 0 = place k (inRow (wL L) ((Rect.unit (s := S2x16) ![0, 0] S1x16.size inb_S2x16_S1x16_0_0).emb x) 2) :=
    (congrFun (emb_lane16 k fun a => x a.succ) 0).trans (congrArg (place k) (Fin.ext ((e 1).trans (Nat.zero_add _)).symm))
  refine Eq.trans ?_ (if_pos ((e 0).trans ((Nat.zero_add _).trans h0))).symm
  exact congrArg chain8 (funext fun k => congrArg₂ FloatOps.mulf (congrArg (found (tb d) (tg d) (wL L)) (hl k)) (congrArg (fun j => mk d (pos (wL L) j)) (hl k)))

/-- and the mask's row its second. -/
theorem parts_mask (x : S1x16.Idx) :
    (chain8 fun k => slab (F := F) (e := .f32) (mk d) (wL L) ((lane16 k).emb fun a => x a.succ))
      = sums tb tg mk d (inRow (wL L) ((Rect.unit (s := S2x16) ![1, 0] S1x16.size inb_S2x16_S1x16_1_0).emb x)) := by
  have e (a : Fin 2) := emb_unit S2x16 ![1, 0] S1x16.size inb_S2x16_S1x16_1_0 x a
  have hl (k : Fin 8) : ((lane16 k).emb fun a => x a.succ) 0 = place k (inRow (wL L) ((Rect.unit (s := S2x16) ![1, 0] S1x16.size inb_S2x16_S1x16_1_0).emb x) 2) :=
    (congrFun (emb_lane16 k fun a => x a.succ) 0).trans (congrArg (place k) (Fin.ext ((e 1).trans (Nat.zero_add _)).symm))
  refine Eq.trans ?_ (if_neg fun h => absurd ((e 0).symm.trans h) (Nat.ne_of_gt (Nat.lt_of_lt_of_le Nat.one_pos (Nat.le_add_right _ _)))).symm
  exact congrArg chain8 (funext fun k => congrArg (fun j => mk d (pos (wL L) j)) (hl k))

omit [FloatOps F] in
/-- The list's words name elements of the table. -/
theorem words_lt (hpre : InRange tg) (y : S128.Idx) : (words (F := F) (tg d) (wL L) y : BitVec 32).toNat < 131072000 := by
  have h := hpre d (pos (wL L) (y 0))
  have hy : (y 0).val < 128 := (y 0).isLt
  have hw : (wL L).val < 32 := (wL L).isLt
  show (word (F := F) (tg d) (wL L) (y 0)).toNat < _
  unfold word
  rw [BitVec.toNat_add, BitVec.toNat_mul, BitVec.toNat_ofNat, BitVec.toNat_ofNat, Nat.mod_eq_of_lt (show 128 * (wL L).val + (y 0).val < 2 ^ 32 by omega),
    Nat.mod_eq_of_lt (show 32000 < 2 ^ 32 by omega), Nat.mod_eq_of_lt (show (128 * (wL L).val + (y 0).val) * 32000 < 2 ^ 32 by omega),
    Nat.mod_eq_of_lt (by omega)]
  omega

/-- What the gather brings is what the list names. -/
theorem gathered (hin : ∀ x, ((s0V).view.read (Elt F) (words (F := F) (tg d) (wL L)) x).toNat < S131072000.size gathers_S131072000_S128.axis) :
    SparseCore.gatherPayload gathers_S131072000_S128 ((tAllK).view.read (Elt F) (tb d))
      (SparseCore.rows ((s0V).view.read (Elt F) (words (F := F) (tg d) (wL L))) rfl hin) = founds (F := F) (tb d) (tg d) (wL L) := by
  funext y
  show View.read (Elt F) (tAllK).view (tb d) _ = _
  refine ((View.read_apply _ _).trans (cast_eq _ _)).trans ?_
  refine congrArg (tb d) (funext fun a => ?_)
  match a with
  | 0 =>
    have hy : S128.rowMajor.symm ((y 0).cast rfl) = y := (Equiv.symm_apply_eq _).2 (Fin.ext (Shape.rowMajor_val_one (d := ![128]) y).symm)
    have hw := hin y
    refine Fin.ext ?_
    refine (emb_unit S131072000 ![0] S131072000.size inb_S131072000_S131072000_0 _ 0).trans ?_
    refine (Nat.zero_add _).trans ((congrArg Fin.val (Shape.Gathers.idx_axis gathers_S131072000_S128 _ y)).trans ?_)
    refine (congrArg (fun z => (words (F := F) (tg d) (wL L) z : BitVec 32).toNat) hy).trans ?_
    exact (Nat.mod_eq_of_lt hw).symm

set_option maxHeartbeats 4000000 in
/-- The task on vector subcore `(L 0, L 1)` of device `d`. -/
theorem tile_body (hF : (K (F := F)).Facts) (hpre : InRange tg) (O : CellTallies nD τ sig (HIx 1)) (W : Waits sig (HIx 1)) (hO : ∀ g, O g none = 0) :
    iprop(levAts (K (F := F)).L (K (F := F)).lev ∗ emp
        ∗ taskPts tb tg mk d (wL L) (ob d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__partials_body L tV (Memref.isWhole_whole _) gV (Memref.isWhole_whole _) kV (Memref.isWhole_whole _) oV (Memref.isWhole_whole _)
            s0V (Memref.isWhole_whole _) s1V (Memref.isWhole_whole _) s2V (Memref.isWhole_whole _) s3V (Memref.isWhole_whole _)
            cc0_scratch4 cc0_scoped0 cc0_scoped1 cc0_scoped2)
          fun _ => iprop(taskPts tb tg mk d (wL L) (sums tb tg mk d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__partials_body_eq_skeleton]; unfold cc0__partials_body_skel
  rw [(K (F := F)).scopedBufs_V hF d (cV L) (jV L), SparseCore.Cfg.scopedSems0_V (Val := Elt F) d (cV L) (jV L), ownSems0_V, ownBufs_V]
  iintro ⟨#Hlv, -, ⟨Ht, Hg, Hk, Ho⟩, ⟨⟨%f0, H0⟩, ⟨%f1, H1⟩, ⟨%f2, H2⟩, ⟨%f3, H3⟩, Hbufs⟩, ⟨HsemG, HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_oRowK (F := F) d L _).symm) $$ Ho
  ihave Ht' := (Entails.of_eq (show (tLoc d ↦{shr (wL L)} tb d : sProp 𝕄) = ((tV).view.loc (V d (cV L) (jV L)) ↦{shr (wL L)} tb d) from rfl)) $$ Ht
  ihave Hg' := (Entails.of_eq (show (gLoc d ↦{shr (wL L)} tg d : sProp 𝕄) = ((gV).view.loc (V d (cV L) (jV L)) ↦{shr (wL L)} tg d) from rfl)) $$ Hg
  ihave Hk' := (Entails.of_eq (show (kLoc d ↦{shr (wL L)} mk d : sProp 𝕄) = ((kV).view.loc (V d (cV L) (jV L)) ↦{shr (wL L)} mk d) from rfl)) $$ Hk
  ihave H0' := (Entails.of_eq (show ((V d (cV L) (jV L)).loc cc0_scratch0 ↦{fullShare} f0 : sProp 𝕄) = ((s0V).view.loc (V d (cV L) (jV L)) ↦{fullShare} f0) from rfl)) $$ H0
  ihave H1' := (Entails.of_eq (show ((V d (cV L) (jV L)).loc cc0_scratch1 ↦{fullShare} f1 : sProp 𝕄) = ((s1V).view.loc (V d (cV L) (jV L)) ↦{fullShare} f1) from rfl)) $$ H1
  ihave H2' := (Entails.of_eq (show ((V d (cV L) (jV L)).loc cc0_scratch2 ↦{fullShare} f2 : sProp 𝕄) = ((s2V).view.loc (V d (cV L) (jV L)) ↦{fullShare} f2) from rfl)) $$ H2
  ihave H3' := (Entails.of_eq (show ((V d (cV L) (jV L)).loc cc0_scratch3 ↦{fullShare} f3 : sProp 𝕄) = ((s3V).view.loc (V d (cV L) (jV L)) ↦{fullShare} f3) from rfl)) $$ H3
  sl_exec
  have hlist : View.writes (s0V).view (Elt F) (s0V).view.junk (tile_body.sl.H0'_8 tg d L f0) = words (F := F) (tg d) (wL L) := by
    funext y
    show View.read (Elt F) (s0V).view (View.writes (s0V).view (Elt F) (s0V).view.junk (tile_body.sl.H0'_8 tg d L f0)) y = _
    refine View.read_writes_apply_of_pieces (s0V).view _ (words (F := F) (tg d) (wL L)) _ ?_ y ?_
    swap; · exact View.cover_of_tiled _ ![16] rfl y
    have hw : View.write (Elt F) (s0V).view f0 (tile_body.sl.dma0 tg d L) Finset.univ = slab (F := F) (e := .i32) (tg d) (wL L) := by
      rw [View.write_whole_univ]; exact read_targets tg d L
    iterate 8 (refine List.forall_mem_cons.2 ⟨fun x => lane_word L _ _ (tg d) hw x, ?_⟩)
    exact fun _ h => absurd h List.not_mem_nil
  have hmask : View.write (Elt F) (s1V).view f1 (tile_body.sl.dma0_1 mk d L) Finset.univ = slab (F := F) (e := .f32) (mk d) (wL L) := by
    rw [View.write_whole_univ]; exact read_mask mk d L
  have hin : ∀ x, ((s0V).view.read (Elt F) (words (F := F) (tg d) (wL L)) x).toNat < S131072000.size gathers_S131072000_S128.axis :=
    words_lt tg d L hpre
  ihave Hxs := (pointsTo_split_subset (q := shr (wL L)) (f := tb d) (S := Finset.univ) (Finset.subset_univ (tAllK).view.set)).1 $$ Ht'
  icases Hxs with ⟨Hxs, Hxr⟩
  have hrs : (s2V).view.set = Finset.univ := View.set_whole _
  have hss : (s0V).view.set = Finset.univ := View.set_whole _
  ihave Hr'' := (Entails.of_eq (show ((s2V).view.loc (V d (cV L) (jV L)) ↦{fullShare} f2 : sProp 𝕄)
      = (s2V).view.loc (V d (cV L) (jV L)) ↦[(s2V).view.set]{fullShare} f2 by rw [hrs])) $$ H2'
  ihave Hs'' := (Entails.of_eq (show ((s0V).view.loc (V d (cV L) (jV L)) ↦{fullShare} View.writes (s0V).view (Elt F) (s0V).view.junk (tile_body.sl.H0'_8 tg d L f0) : sProp 𝕄)
      = (s0V).view.loc (V d (cV L) (jV L)) ↦[(s0V).view.set]{fullShare} words (F := F) (tg d) (wL L)
      by rw [hss, hlist])) $$ H0'
  ihave Hm := (Entails.of_eq (show ((s1V).view.loc (V d (cV L) (jV L)) ↦{fullShare} View.write (Elt F) (s1V).view f1 (tile_body.sl.dma0_1 mk d L) Finset.univ : sProp 𝕄)
      = (s1V).view.loc (V d (cV L) (jV L)) ↦{fullShare} slab (F := F) (e := .f32) (mk d) (wL L) by rw [hmask])) $$ H1'
  have hN : ∀ h : S131072000.Gathers 0 S128, ∑ j, ((s2V).slice (S128.rowRect h.axis' j) (S128.stride_rowRect h.axis' j)).view.dmaCredit
      = (s2V).view.dmaCredit := by decide
  iapply (SparseCore.wp_indirectGatherLocal countersEmb 𝒱₀ (V d (cV L) (jV L)) none (hg := gathers_S131072000_S128) (default : HIx 1)
      (s2V).view.dmaCredit (hN _) (by decide) hin) $$ [Hxs Hr'' Hs'' HsemG]
  · isplitl [Hxs]; · iexact Hxs
    isplitl [Hr'']; · iexact Hr''
    isplitl [Hs'']; · iexact Hs''
    iexact HsemG
  iintro Hfl
  sl_exec
  iapply (Transfers.wp_waitLocalO countersEmb 𝒱₀ (V d (cV L) (jV L)) none (default : HIx 1) (rfl : (s2V).view.dmaCredit = _)) $$ [Hfl HO]
  · isplitl [Hfl]; · iexact Hfl
    isplitl [HO]; · iexact HO
    iapply (Transfers.MayWaits.elim (SemLoc.dma cc0_scratch4.sem)) $$ Hmw
  iintro ⟨⟨Hr', Hxs, Hs'⟩, HsemG, HO⟩
  ihave Ht' := (pointsTo_split_subset (q := shr (wL L)) (f := tb d) (S := Finset.univ) (Finset.subset_univ (tAllK).view.set)).2 $$ [Hxs Hxr]; · isplitl [Hxs] <;> iassumption
  have hgot : View.write (Elt F) (s2V).view f2 (SparseCore.gatherPayload gathers_S131072000_S128 ((tAllK).view.read (Elt F) (tb d))
      (SparseCore.rows ((s0V).view.read (Elt F) (words (F := F) (tg d) (wL L))) rfl hin)) Finset.univ = founds (F := F) (tb d) (tg d) (wL L) := by
    rw [View.write_whole_univ]; exact gathered tb tg d L hin
  ihave Hr3 := (Entails.of_eq (show ((s2V).view.loc (V d (cV L) (jV L)) ↦[(s2V).view.set]{fullShare} View.write (Elt F) (s2V).view f2 (SparseCore.gatherPayload gathers_S131072000_S128 ((tAllK).view.read (Elt F) (tb d))
        (SparseCore.rows ((s0V).view.read (Elt F) (words (F := F) (tg d) (wL L))) rfl hin)) Finset.univ : sProp 𝕄)
      = (s2V).view.loc (V d (cV L) (jV L)) ↦{fullShare} founds (F := F) (tb d) (tg d) (wL L) by rw [hrs, hgot])) $$ Hr'
  ihave Hs3 := (Entails.of_eq (show ((s0V).view.loc (V d (cV L) (jV L)) ↦[(s0V).view.set]{fullShare} _ : sProp 𝕄)
      = (s0V).view.loc (V d (cV L) (jV L)) ↦{fullShare} _ by rw [hss])) $$ Hs'
  sl_exec
  have hrow : ∀ i ∈ oRowSet (wL L), View.writes (oRowK L).view (Elt F) (ob d) [⟨Rect.whole S2x16, tile_body.sl.dma28 tb tg mk d L f3⟩] i = sums tb tg mk d i := by
    intro i hi
    rw [← set_oRowK] at hi
    obtain ⟨y, -, rfl⟩ := Finset.mem_map.mp hi
    refine ((View.read_apply (Val := Elt F) _ _).trans (cast_eq _ _)).symm.trans ?_
    refine (View.read_writes_cons_hit (oRowK L).view _ (Rect.whole S2x16) _ [] y y (by exact Rect.emb_whole_apply S2x16 y)).trans ?_
    rw [emb_oRowK]
    refine View.read_writes_apply_of_pieces (s3V).view f3 (fun y => sums tb tg mk d (inRow (wL L) y)) _ ?_ y ?_
    swap; · exact View.cover_of_tiled _ ![1, 16] rfl y
    refine List.forall_mem_cons.2 ⟨fun x => ?_, List.forall_mem_cons.2 ⟨fun x => ?_, fun _ h => absurd h List.not_mem_nil⟩⟩
    · exact (row_mask (fun k => View.readAt (Elt F) (s1V).view (lane16 k).toLoadRect (slab (F := F) (e := .f32) (mk d) (wL L))) x).trans (parts_mask tb tg mk d L x)
    · exact (row_products (fun k => View.readAt (Elt F) (s2V).view (lane16 k).toLoadRect (founds (F := F) (tb d) (tg d) (wL L)))
        (fun k => View.readAt (Elt F) (s1V).view (lane16 k).toLoadRect (slab (F := F) (e := .f32) (mk d) (wL L))) x).trans (parts_products tb tg mk d L x)
  sl_step
  isplitl [Hg' Hk' Ht' Ho']
  · isplitl [Ht']; · iexact Ht'
    isplitl [Hg']; · iexact Hg'
    isplitl [Hk']; · iexact Hk'
    ihave Ho2 := (Entails.of_eq (pts_oRowK (F := F) d L _)) $$ Ho'
    iapply (Entails.of_eq (pointsTo_congr (ℓ := oLoc d) (q := fullShare) hrow)); iexact Ho2
  isplitl [Hs3 Hm Hr3 H3' Hbufs]
  · isplitl [Hs3]; · iexists _; iexact Hs3
    isplitl [Hm]; · iexists _; iexact Hm
    isplitl [Hr3]; · iexists _; iexact Hr3
    isplitl [H3']; · iexists _; iexact H3'
    iexact Hbufs
  isplitl [HsemA HsemB HsemC HsemG Hsems]
  · isplitl [HsemG]; · iexact HsemG
    isplitl [HsemA]; · iexact HsemA
    isplitl [HsemB]; · iexact HsemB
    isplitl [HsemC]; · iexact HsemC
    iexact Hsems
  iexists _; isplitr
  swap; · iexact HO
  ipureintro; intro p hp
  simp only [Finset.mem_insert] at hp
  rcases hp with rfl | rfl | rfl | rfl | hp
  · exact .inr rfl
  · exact .inr rfl
  · exact .inr rfl
  · exact .inr rfl
  · exact .inl hp

/-! ## The launch's obligation for the tasks -/

/-- A task's coordinates, from its SparseCore and its vector subcore. -/
def coordsV (c : Fin (grid0.bound 0)) (s : Fin (grid0.bound 1)) : grid0.Coords :=
  fun | 0 => c | 1 => s | ⟨_ + 2, h⟩ => absurd h (Nat.not_lt.2 (Nat.le_add_left _ _))

/-- What a vector subcore runs is the task's body at its coordinates. -/
theorem defs₀_vector (c : Fin τ.nSC) (s : Fin τ.nSub) :
    defs₀ (F := F) (.scVector c s) 0 ()
      = SparseCore.onTile hcore0 hsub0 (fun c s => cc0__partials_body (coordsV c s)
          tV (Memref.isWhole_whole _) gV (Memref.isWhole_whole _) kV (Memref.isWhole_whole _) oV (Memref.isWhole_whole _)
          s0V (Memref.isWhole_whole _) s1V (Memref.isWhole_whole _) s2V (Memref.isWhole_whole _) s3V (Memref.isWhole_whole _)
          cc0_scratch4 cc0_scoped0 cc0_scoped1 cc0_scoped2) ⟨⟩ c s := rfl

omit [FloatOps F] in
/-- A task's wait records satisfy what the launch asks of them. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task, started by the launch, does what `tile_body` states. -/
theorem tileObl (hF : (K (F := F)).Facts) (hpre : InRange tg) : (K (F := F)).TileObl (D (F := F)) 𝒱 (P tb tg mk ob) v₀ 0 := by
  intro d c i O W hO _ _
  simp only [show (P (F := F) tb tg mk ob).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tb tg mk ob d (coordsV ⟨_, hci.1⟩ ⟨_, hci.2⟩) hF hpre O W hO).trans (wp_mono frame _ _ fun _ => obl_post)

end Tile

/-! ## The operands split between the tasks -/

/-- The places of a row are the row's. -/
theorem oRowSet_eq (w : Fin 32) : oRowSet w = (orow w).set := by
  show ((View.whole (main_v3_scv : Ref sig .scVector)).slice (orow w)).set = _
  rw [View.set_slice]; exact Finset.map_refl

/-- The partial sums, row by row. -/
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet (fun i _ j _ h => by rw [oRowSet_eq, oRowSet_eq]; exact Rect.part_disjoint odiv h),
    (Finset.biUnion_congr rfl fun w _ => oRowSet_eq w).trans (Rect.biUnion_part odiv)]

section Split

variable [FloatOps F]

/-- The tasks, numbered, are the pairs of a SparseCore and a vector subcore. -/
def tasks : Fin ((K (F := F)).nCore 0) × Fin 16 ≃ Fin 32 where
  toFun x := wid (Fin.cast nCore_zero x.1) x.2
  invFun w := (⟨w.val % 2, Nat.mod_lt _ (by decide)⟩, ⟨w.val / 2, by omega⟩)
  left_inv := fun x => by
    have h : x.1.val < 2 := x.1.isLt
    refine Prod.ext (Fin.ext ?_) (Fin.ext ?_)
    · show (2 * x.2.val + x.1.val) % 2 = x.1.val; omega
    · show (2 * x.2.val + x.1.val) / 2 = x.2.val; omega
  right_inv w := Fin.ext (show 2 * (w.val / 2) + w.val % 2 = w.val by omega)

/-- Side by side over the SparseCores and their subcores is side by side over the tasks. -/
theorem bigSep_tasks (Φ : Fin 32 → sProp 𝕄) :
    (bigSep Finset.univ fun c : Fin ((K (F := F)).nCore 0) => bigSep Finset.univ fun i : Fin 16 => Φ (wid (Fin.cast nCore_zero c) i)) = bigSep Finset.univ Φ := by
  rw [bigSep_univ_equiv (tasks (F := F)) Φ]
  exact (bigSep_univ_prod fun x : Fin ((K (F := F)).nCore 0) × Fin 16 => Φ (tasks (F := F) x)).symm

variable (tb : (d : Dev nD) → Buf (Elt F) (tLoc d)) (tg : (d : Dev nD) → Buf (Elt F) (gLoc d)) (mk : (d : Dev nD) → Buf (Elt F) (kLoc d))
  (ob : (d : Dev nD) → Buf (Elt F) (oLoc d)) (d : Dev nD)

/-- The four buffers whole are all the tasks' operands. -/
theorem tasks_whole (f : Buf (Elt F) (oLoc d)) :
    (bigSep Finset.univ fun w : Fin 32 => taskPts tb tg mk d w f)
      = (iprop((tLoc d ↦{fullShare} tb d) ∗ (gLoc d ↦{fullShare} tg d) ∗ (kLoc d ↦{fullShare} mk d) ∗ oLoc d ↦{fullShare} f) : sProp 𝕄) := by
  rw [bigSep_sep', bigSep_sep', bigSep_sep', oPts_rows, pointsTo_leaves (ℓ := tLoc d) Finset.univ (tb d) 5 fullShare,
    pointsTo_leaves (ℓ := gLoc d) Finset.univ (tg d) 5 fullShare, pointsTo_leaves (ℓ := kLoc d) Finset.univ (mk d) 5 fullShare]
  rfl

/-- What the launch hands the SparseCores: the four buffers. -/
theorem st0_eq : (bigSep Finset.univ fun c : Fin ((K (F := F)).nCore 0) => (P tb tg mk ob).st 0 d c)
    = (iprop((tLoc d ↦{fullShare} tb d) ∗ (gLoc d ↦{fullShare} tg d) ∗ (kLoc d ↦{fullShare} mk d) ∗ oLoc d ↦{fullShare} ob d) : sProp 𝕄) :=
  (bigSep_tasks (F := F) fun w => taskPts tb tg mk d w (ob d)).trans (tasks_whole tb tg mk d (ob d))

/-- What it has back: the same, the partial sums computed. -/
theorem dn0_eq : (bigSep Finset.univ fun c : Fin ((K (F := F)).nCore 0) => (P tb tg mk ob).dn 0 d c)
    = (iprop((tLoc d ↦{fullShare} tb d) ∗ (gLoc d ↦{fullShare} tg d) ∗ (kLoc d ↦{fullShare} mk d) ∗ oLoc d ↦{fullShare} sums tb tg mk d) : sProp 𝕄) :=
  (bigSep_tasks (F := F) fun w => taskPts tb tg mk d w (sums tb tg mk d)).trans (tasks_whole tb tg mk d (sums tb tg mk d))

end Split

end Cert.KernelIdeal.Run
-- ==== Proof.RegionIdeal.lean ====
/-
  The TensorCore part of the kernel: the call that adds up the partial sums and divides, as a region of `@main` entered
  from any contents of the device's buffers and left with the quotient in its result.
-/
module

public import proofs.«01_k».proof.Proof.TileIdeal
public import proofs.«01_k».proof.Proof.Gen.KernelIdeal.Launch
public import proofs.«01_k».proof.Proof.Gen.KernelIdeal.Points
public import Idealize.ShloMosaic.Lib.Pipeline.Regions
public import Idealize.ShloMosaic.Lib.Pipeline.ValueKit
public import Idealize.ShloMosaic.Lib.Tactic

@[expose] public section

noncomputable section

namespace Cert.KernelIdeal.Run

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 1) (Elt F) ℕ UU ℕ

/-! ## The body -/

/-- Row `r` of the partial sums' middle axis: the products (0), the mask (1). -/
def midRow (r : Fin 2) (x : S32x2x16.Idx → Elt F .f32) : Vec F S32x1x16 .f32 :=
  fun y => x fun | 0 => y 0 | 1 => r | 2 => y 2

/-- The quotient that the body computes from the partial sums, as the one element of its result. -/
def quotient (x : S32x2x16.Idx → Elt F .f32) : S1x1.Idx → Elt F .f32 := k1_pay1 (midRow 0 x) (midRow 1 x)

/-- A memref's buffer on core `c`, whole, at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The operand as the body sees it, staged, -/
abbrev inV : Memref sig .tc .vmem S32x2x16 .f32 := stage1_0 0
/-- and its result. -/
abbrev outV : Memref sig .tc .vmem S1x1 .f32 := stage1_1 0

/-- The load at middle coordinate `r` reads that row. -/
theorem readAt_midRow (r : Fin 2) (o : Fin 3 → ℕ) (h : ∀ a, o a + S32x1x16.size a ≤ S32x2x16.size a) (h0 : o 0 = 0) (h1 : o 1 = r.val) (h2 : o 2 = 0)
    (f : S32x2x16.Idx → Elt F .f32) :
    View.readAt (Elt F) inV.view (Rect.unit (s := S32x2x16) o S32x1x16.size h).toLoadRect f = midRow r f := by
  funext y
  refine congrArg f (funext fun a => Fin.ext ?_)
  refine (emb_unit S32x2x16 o S32x1x16.size h y a).trans ?_
  match a with
  | 0 => show o 0 + (y 0).val = (y 0).val; omega
  | 1 => have : (y 1).val < 1 := (y 1).isLt
         show o 1 + (y 1).val = r.val; omega
  | 2 => show o 2 + (y 2).val = (y 2).val; omega

/-- The body, from the partial sums staged in its operand's buffer: it leaves the quotient in its result's. -/
theorem finalize_body (c : Dev nD) (f0 : S32x2x16.Idx → Elt F .f32) (f1 : S1x1.Idx → Elt F .f32) (E : Set ℕ) (Q : PUnit → sProp 𝕄) :
    iprop(pt c inV f0 ∗ pt c outV f1 ∗ (iprop(pt c inV f0 ∗ pt c outV (quotient f0)) -∗ Q ⟨⟩))
      ⊢ wp frame (wpE (defs₀ (F := F)) Variants.none c none) E (cc1__finalize_body inV (hstage1_0 0) outV (hstage1_1 0)) Q := by
  iintro ⟨H0, H1, Hk⟩
  sl_exec!
  sl_step
  iapply Hk
  isplitl [H0]; · iexact H0
  have hw : outV.view.writes (Elt F) outV.view.junk (finalize_body.sl.H1_1 f0) = quotient f0 := by
    funext y
    show View.read (Elt F) outV.view (outV.view.writes (Elt F) outV.view.junk (finalize_body.sl.H1_1 f0)) y = _
    refine View.read_writes_apply_of_pieces outV.view _ (quotient f0) _ ?_ y ?_
    swap; · exact View.cover_of_tiled _ ![1, 1] rfl y
    refine List.forall_mem_cons.2 ⟨fun x => ?_, fun _ h => absurd h List.not_mem_nil⟩
    exact congrArg₂ (fun a b => k1_pay1 (F := F) a b x) (readAt_midRow 0 ![0, 0, 0] _ rfl rfl rfl f0) (readAt_midRow 1 ![0, 1, 0] _ rfl rfl rfl f0)
  iapply (Entails.of_eq (show (pt c outV (outV.view.writes (Elt F) outV.view.junk (finalize_body.sl.H1_1 f0)) : sProp 𝕄) = pt c outV (quotient f0) by rw [hw]))
  iexact H1

/-! ## The proof data, at given contents of the device's buffers -/

variable (b₀ : ℕ) (V : (c : Dev nD) → (b : Ref sig .tc) → Buf (Elt F) ((c : Thread nD τ).loc b))

/-- The waits that the core may have recorded: none above level `b₀`. -/
def lowWaits (c : Dev nD) : Set (SemLoc sig × HIx 1) := {p | (K (F := F)).lev ((c : Thread nD τ), p.1) p.2 ≤ b₀}

/-- The operand's array and the result's at the contents `V`; after the body the operand's staging buffer holds the
    partial sums, the result's the quotient; nothing is owed. -/
def dat (c : Dev nD) : Dat τ (Elt F) (HIx 1) ℕ UU ℕ cfg1 c where
  A w := V c (Pipeline.arrRef spec1 w)
  after w _ := match w with
    | ⟨0, _⟩ => V c main_v3
    | ⟨1, _⟩ => quotient (F := F) (V c main_v3)
  Φ _ := BI.emp
  q _ := fullShare
  owed _ := 0
  recorded _ := lowWaits (F := F) b₀ c

/-- The one pipeline's tables: it has none. -/
abbrev adm : (p : Fin 1) → (pcfgs (F := F) p).Adm := fun p => (cfgs p).toPCfg_adm
/-- The proof data of the one pipeline. -/
abbrev pdats : (p : Fin 1) → (c : Dev nD) → Dat τ (Elt F) (HIx 1) ℕ UU ℕ (Pipeline.pin (pcfgs (F := F)) adm p) c
  | ⟨0, _⟩ => fun c => dat b₀ V c

/-- What the fetch stages is the whole array. -/
theorem staged (c : Dev nD) : ((cfg1.win 0).blk t1_0).view.read (Elt F) (V c main_v3) = V c main_v3 := by
  funext y
  refine ((View.read_apply _ _).trans (cast_eq _ _)).trans ?_
  refine congrArg (V c main_v3) (funext fun a => Fin.ext ?_)
  show 0 * S32x2x16.size a + 1 * (y a).val = (y a).val
  omega

/-- What the body finds in its operand's stage is the whole array. -/
theorem before_in (c : Dev nD) (d : (cfg1.win 0).block.Idx → Elt F (cfg1.win 0).elt) : (dat b₀ V c).before 0 t1_0 d = V c main_v3 := by
  unfold Dat.before; rw [if_pos (by decide)]
  exact staged V c

/-- The body meets what the pipeline asks of it at its one step. -/
theorem body_obligation (c : Dev nD) : BodyObligation (dat b₀ V c) (defs₀ (F := F)) 𝒱₀ (default : HIx 1) Set.univ := fun t => by
  obtain rfl := fin_N1 t
  rw [bigSep_W1, bigSep_W1]
  simp only [owns_whole_eq]
  rw [show (dat b₀ V c).Φ t1_0.castSucc = BI.emp from rfl, show (dat b₀ V c).Φ t1_0.succ = BI.emp from rfl,
    show (dat b₀ V c).owesAt (default : HIx 1) t1_0.succ = (dat b₀ V c).owesAt (default : HIx 1) t1_0.castSucc from rfl]
  iintro ⟨-, Howes, ⟨%d0, %f0, %hf0, H0⟩, ⟨%d1, %f1, -, H1⟩⟩
  rw [before_in] at hf0
  subst hf0
  iapply (finalize_body c (V c main_v3) f1 Set.univ _)
  isplitl [H0]; · iexact H0
  isplitl [H1]; · iexact H1
  iintro ⟨H0, H1⟩
  isplitr; · iempintro
  isplitl [Howes]; · iexact Howes
  isplitl [H0]; · iexists _; isplitr; swap; (· iexact H0); ipureintro; dsimp only [dat]
  iexists _; isplitr; swap; (· iexact H1); ipureintro; dsimp only [dat]

/-- The call leaves the quotient in its result's array. -/
theorem arr_out (c : Dev nD) : (dat b₀ V c).arrAt 1 cfg1.N = quotient (F := F) (V c main_v3) :=
  (dat b₀ V c).arrAt_eq_of_after_last 1 t1_0 (by decide +kernel) _ (fun j => by
    refine (cast_eq _ _).trans ?_
    rfl)

/-- What the core owes and has recorded, beside the region. -/
abbrev lowOwes (c : Dev nD) : sProp 𝕄 := iprop(∃ W, ⌜(K (F := F)).WBelow (c : Thread nD τ) W (b₀)⌝ ∗ owes (c : Thread nD τ) (0 : CellTallies nD τ sig (HIx 1)) W)

variable (Vp : (c : Dev nD) → (b : Ref sig .tc) → Buf (Elt F) ((c : Thread nD τ).loc b))

set_option backward.isDefEq.respectTransparency.types false in
/-- The call as a region: entered holding the device's buffers at `V`, left holding them at `Vp`, which is `V` but for
    the quotient in the call's result. -/
def reg (hVp_out : ∀ c, Vp c main_v4 = quotient (F := F) (V c main_v3)) (hVp_ne : ∀ c (b : Ref sig .tc), b ≠ main_v4 → Vp c b = V c b) :
    Pipeline.RegionSeg (pcfgs (F := F)) adm (pdats b₀ V) (default : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation b₀ V c).loose
  hwaits := Pipeline.hwaits_of_owed_zero _ _ _ _ (K (F := F)).L (K (F := F)).lev 0 fun _ _ => rfl
  pre c := iprop(unscopedBufs c (V c) ∗ lowOwes (F := F) b₀ c)
  post c := iprop(unscopedBufs c (Vp c) ∗ lowOwes (F := F) b₀ c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats b₀ V) launch1.win launch1.arr_whole c
      ((pdats b₀ V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats b₀ V 0 c).Φ 0 = BI.emp from rfl]
    iintro -; iempintro
  hout c := by
    rw [Pipeline.ownSems0_none, show Pipeline.scopedRest (Pipeline.pin (pcfgs (F := F)) adm 0).spec c = (BI.emp : sProp 𝕄) from scopedRest1_eq c]
    iintro -
    isplitr; · iempintro
    isplitr <;> iempintro
  hexit c := by
    have hjoin := Pipeline.unscopedBufs_of_arrays (p := 0) (pcfgs (F := F)) adm (Ix := HIx 1) (Name := ℕ) (U := UU) (Lvl := ℕ) launch1.win launch1.arr_whole c
      (pdats b₀ V) ((pdats b₀ V 0 c).share_full fun _ => rfl) (V c) (Vp c) ((pdats b₀ V 0 c).arrAt · cfg1.N)
      (fun w => by
        fin_cases w
        · exact ((pdats b₀ V 0 c).arrAt_in 0 rfl _).trans (hVp_ne c main_v3 (by decide)).symm
        · exact (arr_out b₀ V c).trans (hVp_out c).symm)
      (fun b hb => hVp_ne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

end Cert.KernelIdeal.Run

end
-- ==== Proof.RunIdeal.lean ====
/-
  The run of the whole kernel: three reshapes, the SparseCore call, the TensorCore call, a last reshape. From a launch
  memory whose targets are in range it ends with the arguments unchanged, every semaphore at zero and the result at
  the quotient of the partial sums.
-/
module

public import proofs.«01_k».proof.Proof.TileIdeal
public import proofs.«01_k».proof.Proof.RegionIdeal
public import Idealize.ShloMosaic.Lib.SparseCore.Quiescent
public import Idealize.ShloMosaic.Lib.StableHlo.Run
public import Idealize.ShloMosaic.Lib.StableHlo.RunRead
public import Idealize.ShloMosaic.Lib.Pipeline.Regions
public import Idealize.ShloMosaic.Lib.Tactic

@[expose] public section

noncomputable section

namespace Cert.KernelIdeal.Run

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

/-! ## The ghost state at launch -/

/-- Where the rounds of the TensorCore call's pipeline live. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

/-- They are part of the ghost state that the launch hands out. -/
instance EP_landsIn : (EP : Emb UP 𝕄).LandsIn (upEmb : UEmb _ 𝕄) := by unfold EP; infer_instance

/-- The pipeline's cells are told apart by their semaphores. -/
theorem phinj : Function.Injective (Pipeline.cellOf (nD := nD) (τ := τ) (Pipeline.pin (pcfgs (F := F)) adm)) := cellOf_inj

/-- The ghost state at launch: the handshakes' rounds, the pipeline's rounds, no transfer counted yet. -/
def u₀ : UU :=
  (initOf (K (F := F)).hsCells (K (F := F)).hsToks,
    (initOf (Pipeline.cells (Pipeline.pin (pcfgs (F := F)) adm) phinj) (Pipeline.launchToks (Pipeline.pin (pcfgs (F := F)) adm) phinj), 1))

/-- What the TensorCore of a device is given of it. -/
def G (d : Dev nD) : sProp 𝕄 :=
  iprop(Pipeline.cellsGhost (Pipeline.pin (pcfgs (F := F)) adm) EP 0 d ∗ Pipeline.toksInit (Pipeline.pin (pcfgs (F := F)) adm) EP 0 d)

/-- The launch's ghost state gives the handshakes' part and the pipeline's part. -/
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Nothing, as often as one likes, is nothing. -/
theorem bigSep_emps {I : Type} (s : Finset I) : (bigSep s fun _ => iprop(emp)) = (iprop(emp) : sProp 𝕄) := bigSep_emp_const s

/-- Four operands and a rest, grouped. -/
theorem sep_four (A B C D R : sProp 𝕄) : iprop(A ∗ B ∗ C ∗ D ∗ R) = iprop((A ∗ B ∗ C ∗ D) ∗ R) := by
  have h₁ : iprop(A ∗ B ∗ C ∗ D ∗ R) ⊢ iprop((A ∗ B ∗ C ∗ D) ∗ R) := by
    iintro ⟨HA, HB, HC, HD, HR⟩
    isplitr [HR]
    · isplitl [HA]; · iexact HA
      isplitl [HB]; · iexact HB
      isplitl [HC] <;> iassumption
    iexact HR
  have h₂ : iprop((A ∗ B ∗ C ∗ D) ∗ R) ⊢ iprop(A ∗ B ∗ C ∗ D ∗ R) := by
    iintro ⟨⟨HA, HB, HC, HD⟩, HR⟩
    isplitl [HA]; · iexact HA
    isplitl [HB]; · iexact HB
    isplitl [HC]; · iexact HC
    isplitl [HD] <;> iassumption
  exact BI.equiv_iff.mp ⟨h₁, h₂⟩

section Fund

variable (tb : Dev nD → S131072000.Idx → Elt F .f32) (tg : Dev nD → S4096.Idx → Elt F .i32) (mk : Dev nD → S4096.Idx → Elt F .f32)
  (ob : Dev nD → S32x2x16.Idx → Elt F .f32)

/-- The launch's ghost state funds the handshakes and every device's pipeline. -/
theorem hu₀ : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P tb tg mk ob).x q thr) := by
  unfold u₀
  iintro Hu
  ihave H := (ownU_split _ _) $$ Hu
  icases H with ⟨HH, HP⟩
  imod (Pipeline.fund_ghost (Pipeline.pin (pcfgs (F := F)) adm) EP phinj) $$ HP with ⟨Hg, Ht⟩
  imodintro
  isplitl [HH]; · iexact HH
  isplitl [Hg Ht]
  · unfold G
    rw [bigSep_sep']
    isplitl [Hg]
    · iapply (Entails.of_eq (bigSep_congr fun c _ => bigSep_univ_of_subsingleton (0 : Fin 1))) $$ Hg
    · iapply (Entails.of_eq (bigSep_congr fun c _ => bigSep_univ_of_subsingleton (0 : Fin 1))) $$ Ht
  rw [show (bigSep Finset.univ fun thr : Thread nD τ => bigSep Finset.univ fun q : Fin 1 => (P tb tg mk ob).x q thr) = bigSep Finset.univ fun _ => iprop(emp) from
    bigSep_congr fun _ _ => bigSep_univ_of_subsingleton (0 : Fin 1), bigSep_emps]
  iempintro

end Fund

/-! ## The contents of a device's buffers from step to step -/

/-- The buffers of `@main`. -/
def mainRefs : Finset (DevRef τ sig) := (StableHlo.tcRefs τ sig).filter fun b => ¬ b.isScoped

/-- The TensorCore's buffers at given contents, as a straight-line operation holds them; -/
theorem unscopedBufs_held (d : Dev nD) (W : Valuation τ sig (Elt F)) :
    (unscopedBufs d (fun b : Ref sig .tc => W b) : sProp 𝕄) = held (d : Thread nD τ) mainRefs W := by
  unfold unscopedBufs held mainRefs StableHlo.tcRefs
  rw [Finset.filter_map, bigSep_map]; rfl

/-- The buffers that the SparseCore call does not touch. -/
def restRefs : Finset (Ref sig .tc) := {main_arg0, main_arg1, main_arg2, main_v4, main_v5}

/-- and the four that the SparseCore call touches taken out of them. -/
theorem unscopedBufs_eq (d : Dev nD) (W : (b : Ref sig .tc) → Buf (Elt F) ((d : Thread nD τ).loc b)) :
    (unscopedBufs d W : sProp 𝕄) = iprop((tLoc d ↦{fullShare} W main_v0) ∗ (gLoc d ↦{fullShare} W main_v1) ∗ (kLoc d ↦{fullShare} W main_v2)
      ∗ (oLoc d ↦{fullShare} W main_v3) ∗ bigSep restRefs fun b => (d : Thread nD τ).loc b ↦{fullShare} W b) := by
  unfold unscopedBufs
  rw [show (Finset.univ.filter fun b : Ref sig .tc => ¬ b.isScoped) = insert main_v0 (insert main_v1 (insert main_v2 (insert main_v3 restRefs))) by decide,
    SparseCore.bigSep_insert' (by decide), SparseCore.bigSep_insert' (by decide), SparseCore.bigSep_insert' (by decide), SparseCore.bigSep_insert' (by decide)]

/-- The reshapes of `@main`: the table flattened, -/
abbrev toTable : HloOp τ sig (Elt F) := StableHlo.reshape main_arg0 main_v0 (rfl : (.f32 : EltTy) = .f32) shapeCasts_S8x512x32000_S131072000
/-- the targets flattened, -/
abbrev toTargets : HloOp τ sig (Elt F) := StableHlo.reshape main_arg1 main_v1 (rfl : (.i32 : EltTy) = .i32) shapeCasts_S8x512_S4096
/-- the mask flattened, -/
abbrev toMask : HloOp τ sig (Elt F) := StableHlo.reshape main_arg2 main_v2 (rfl : (.f32 : EltTy) = .f32) shapeCasts_S8x512_S4096
/-- the quotient as a scalar. -/
abbrev toScalar : HloOp τ sig (Elt F) := StableHlo.reshape main_v4 main_v5 (rfl : (.f32 : EltTy) = .f32) shapeCasts_S1x1_S_

variable (m : (ℓ : Loc nD τ sig) → Buf (Elt F) ℓ) (ρ : Dev nD → PrngReg)

/-- The flattened table. -/
def table (d : Dev nD) : S131072000.Idx → Elt F .f32 := shapeCast S131072000 (m ((d : Thread nD τ).loc main_arg0)) shapeCasts_S8x512x32000_S131072000
/-- The flattened targets. -/
def targets (d : Dev nD) : S4096.Idx → Elt F .i32 := shapeCast S4096 (m ((d : Thread nD τ).loc main_arg1)) shapeCasts_S8x512_S4096
/-- The flattened mask. -/
def maskOf (d : Dev nD) : S4096.Idx → Elt F .f32 := shapeCast S4096 (m ((d : Thread nD τ).loc main_arg2)) shapeCasts_S8x512_S4096
/-- What the partial sums' buffer holds before the call. -/
def before (d : Dev nD) : S32x2x16.Idx → Elt F .f32 := m (oLoc d)

/-- The result: the quotient of the partial sums, at the shape of a scalar. -/
def result (d : Dev nD) : S_.Idx → Elt F .f32 := shapeCast S_ (quotient (sums (table m) (targets m) (maskOf m) d)) shapeCasts_S1x1_S_

/-- At launch, -/
def val₀ (d : Dev nD) : Valuation τ sig (Elt F) := fun b => m (d, b)
/-- after the three reshapes, -/
def val₁ (d : Dev nD) : Valuation τ sig (Elt F) := toMask.result (toTargets.result (toTable.result (val₀ m d)))
/-- after the SparseCore call, -/
def val₂ (d : Dev nD) : Valuation τ sig (Elt F) :=
  Function.update (val₁ m d) (main_v3 : Ref sig .tc) (sums (table m) (targets m) (maskOf m) d)
/-- after the TensorCore call, -/
def val₃ (d : Dev nD) : Valuation τ sig (Elt F) :=
  Function.update (val₂ m d) (main_v4 : Ref sig .tc) (quotient (sums (table m) (targets m) (maskOf m) d))
/-- and at the end. -/
def val₄ (d : Dev nD) : Valuation τ sig (Elt F) := toScalar.result (val₃ m d)

/-- Two buffers of the TensorCore are two buffers of the device. -/
theorem devRef_ne {b b' : Ref sig .tc} (h : b ≠ b') : (b : DevRef τ sig) ≠ (b' : DevRef τ sig) := fun e => h (Proc.devRef_injective _ e)

/-- The reshapes change only their own results, -/
theorem val₁_of_ne (d : Dev nD) (b : Ref sig .tc) (h0 : b ≠ main_v0) (h1 : b ≠ main_v1) (h2 : b ≠ main_v2) : val₁ m d b = m ((d : Thread nD τ).loc b) := by
  unfold val₁
  rw [HloOp.result_of_not_mem _ _ (fun h => devRef_ne h2 (Finset.mem_singleton.mp h)), HloOp.result_of_not_mem _ _ (fun h => devRef_ne h1 (Finset.mem_singleton.mp h)),
    HloOp.result_of_not_mem _ _ (fun h => devRef_ne h0 (Finset.mem_singleton.mp h))]
  rfl

/-- which are the flattened table, -/
theorem val₁_table (d : Dev nD) : val₁ m d main_v0 = table m d := by
  unfold val₁
  rw [HloOp.result_of_not_mem _ _ (fun h => devRef_ne (by decide : main_v0 ≠ main_v2) (Finset.mem_singleton.mp h)),
    HloOp.result_of_not_mem _ _ (fun h => devRef_ne (by decide : main_v0 ≠ main_v1) (Finset.mem_singleton.mp h)), StableHlo.reshape_result]
  rfl

/-- the flattened targets -/
theorem val₁_targets (d : Dev nD) : val₁ m d main_v1 = targets m d := by
  unfold val₁
  rw [HloOp.result_of_not_mem _ _ (fun h => devRef_ne (by decide : main_v1 ≠ main_v2) (Finset.mem_singleton.mp h)), StableHlo.reshape_result]
  funext i
  show shapeCast _ (toTable.result (val₀ m d) main_arg1) _ i = _
  rw [HloOp.result_of_not_mem _ _ (fun h => devRef_ne (by decide : main_arg1 ≠ main_v0) (Finset.mem_singleton.mp h))]
  rfl

/-- and the flattened mask. -/
theorem val₁_mask (d : Dev nD) : val₁ m d main_v2 = maskOf m d := by
  unfold val₁
  rw [StableHlo.reshape_result]
  funext i
  show shapeCast _ (toTargets.result (toTable.result (val₀ m d)) main_arg2) _ i = _
  rw [HloOp.result_of_not_mem _ _ (fun h => devRef_ne (by decide : main_arg2 ≠ main_v1) (Finset.mem_singleton.mp h)),
    HloOp.result_of_not_mem _ _ (fun h => devRef_ne (by decide : main_arg2 ≠ main_v0) (Finset.mem_singleton.mp h))]
  rfl

/-- The partial sums' buffer still holds what it held at launch. -/
theorem val₁_before (d : Dev nD) : val₁ m d main_v3 = before m d := val₁_of_ne m d main_v3 (by decide) (by decide) (by decide)

/-- The SparseCore call leaves the partial sums, -/
theorem val₂_sums (d : Dev nD) : val₂ m d main_v3 = sums (table m) (targets m) (maskOf m) d := Function.update_self ..
/-- and changes no other buffer. -/
theorem val₂_of_ne (d : Dev nD) (b : Ref sig .tc) (h : b ≠ main_v3) : val₂ m d b = val₁ m d b := Function.update_of_ne (devRef_ne h) ..
/-- The TensorCore call leaves their quotient, -/
theorem val₃_out (d : Dev nD) : val₃ m d main_v4 = quotient (val₂ m d main_v3) :=
  (Function.update_self ..).trans (congrArg quotient (val₂_sums m d)).symm
/-- and changes no other buffer. -/
theorem val₃_of_ne (d : Dev nD) (b : Ref sig .tc) (h : b ≠ main_v4) : val₃ m d b = val₂ m d b := Function.update_of_ne (devRef_ne h) ..

/-- At the end the result's buffer holds the result, -/
theorem val₄_result (d : Dev nD) : val₄ m d main_v5 = result m d := by
  unfold val₄
  rw [StableHlo.reshape_result]
  funext i
  show shapeCast _ (val₃ m d main_v4) _ i = _
  rw [val₃_out, val₂_sums]
  rfl

/-- and each argument's what it held at launch. -/
theorem val₄_arg (d : Dev nD) (b : Ref sig .tc) (h : b ∈ ({main_arg0, main_arg1, main_arg2} : Finset (Ref sig .tc))) :
    val₄ m d b = m ((d : Thread nD τ).loc b) := by
  have hn (b' : Ref sig .tc) (h' : b' ∉ ({main_arg0, main_arg1, main_arg2} : Finset (Ref sig .tc))) : b ≠ b' := fun e => h' (e ▸ h)
  unfold val₄
  rw [HloOp.result_of_not_mem _ _ (fun h => devRef_ne (hn main_v5 (by decide)) (Finset.mem_singleton.mp h)), val₃_of_ne m d b (hn _ (by decide)),
    val₂_of_ne m d b (hn _ (by decide)), val₁_of_ne m d b (hn _ (by decide)) (hn _ (by decide)) (hn _ (by decide))]

/-- What the run leaves of a device: its buffers at the final contents. -/
abbrev FIN (d : Dev nD) : sProp 𝕄 := unscopedBufs d (fun b : Ref sig .tc => val₄ m d b)

/-- The payload of the SparseCore call, at this launch memory. -/
abbrev Pm : (K (F := F)).Pay (nD := nD) (Val := Elt F) (Name := ℕ) (U := UU) := P (table m) (targets m) (maskOf m) (before m)

/-- Before the SparseCore call: its four operands, and the rest. -/
theorem open_call (d : Dev nD) : (unscopedBufs d (fun b : Ref sig .tc => val₁ m d b) : sProp 𝕄)
    = iprop(((tLoc d ↦{fullShare} table m d) ∗ (gLoc d ↦{fullShare} targets m d) ∗ (kLoc d ↦{fullShare} maskOf m d) ∗ (oLoc d ↦{fullShare} before m d))
      ∗ bigSep restRefs fun b => (d : Thread nD τ).loc b ↦{fullShare} val₁ m d b) := by
  rw [unscopedBufs_eq, val₁_table, val₁_targets, val₁_mask, val₁_before, sep_four]

/-- After it: the partial sums in place of what stood there, the rest as it was. -/
theorem close_call (d : Dev nD) : (unscopedBufs d (fun b : Ref sig .tc => val₂ m d b) : sProp 𝕄)
    = iprop(((tLoc d ↦{fullShare} table m d) ∗ (gLoc d ↦{fullShare} targets m d) ∗ (kLoc d ↦{fullShare} maskOf m d)
        ∗ (oLoc d ↦{fullShare} sums (table m) (targets m) (maskOf m) d))
      ∗ bigSep restRefs fun b => (d : Thread nD τ).loc b ↦{fullShare} val₁ m d b) := by
  rw [unscopedBufs_eq, val₂_sums, val₂_of_ne m d main_v0 (by decide), val₂_of_ne m d main_v1 (by decide), val₂_of_ne m d main_v2 (by decide),
    val₁_table, val₁_targets, val₁_mask, sep_four,
    bigSep_congr (s := restRefs) fun b hb => by rw [val₂_of_ne m d b (fun e => absurd (e ▸ hb) (by decide))]]

/-- A reshape's two buffers are among `@main`'s. -/
theorem bufs_sub (x y : Ref sig .tc) (h : ({(x : DevRef τ sig), (y : DevRef τ sig)} : Finset (DevRef τ sig)) ⊆ mainRefs) : ({(x : DevRef τ sig)} : Finset (DevRef τ sig)) ∪ {(y : DevRef τ sig)} ⊆ mainRefs := h

set_option backward.isDefEq.respectTransparency.types false in
/-- One reshape of `@main`, from all of a device's buffers. -/
theorem wp_reshape (d : Dev nD) {op : HloOp τ sig (Elt F)} (hS : op.bufs ⊆ mainRefs) (hf : op.fresh = ∅) (W : Valuation τ sig (Elt F)) (Q : PUnit → sProp 𝕄) :
    iprop(boundary (d : Thread nD τ) ∗ unscopedBufs d (fun b : Ref sig .tc => W b)
      ∗ ((boundary (d : Thread nD τ) ∗ unscopedBufs d (fun b : Ref sig .tc => op.result W b)) -∗ Q ⟨⟩))
      ⊢ wp frame (wpE ((K (F := F)).defs (D (F := F))) 𝒱 (SparseCore.T d) none) Set.univ (hlo rfl op fun _ => .ret ⟨⟩) Q := by
  rw [unscopedBufs_held, unscopedBufs_held]
  iintro ⟨Hb, Hh, HQ⟩
  iapply (StableHlo.wp_hlo_within 𝒱 (d : Thread nD τ) none Set.univ hS (V := W) hf) $$ [Hb Hh]
  · isplitl [Hb] <;> iassumption
  iintro H
  rw [wp_ret]
  imodintro
  iapply HQ $$ H

set_option backward.isDefEq.respectTransparency.types false in
/-- The TensorCore call, from all of a device's buffers, owing nothing above a bound. -/
theorem wp_call (d : Dev nD) (b₀ : ℕ) (Q : PUnit → sProp 𝕄) [∀ e, Nonempty (Elt F e)] :
    iprop((boundary (d : Thread nD τ) ∗ (unscopedBufs d (fun b : Ref sig .tc => val₂ m d b) ∗ lowOwes (F := F) b₀ d)
        ∗ levAts (K (F := F)).L (K (F := F)).lev ∗ G d)
      ∗ ((boundary (d : Thread nD τ) ∗ unscopedBufs d (fun b : Ref sig .tc => val₃ m d b) ∗ lowOwes (F := F) b₀ d) -∗ Q ⟨⟩))
      ⊢ wp frame (wpE ((K (F := F)).defs (D (F := F))) 𝒱 (SparseCore.T d) none) Set.univ
          (Prog.lift (.customCall (SparseCore.inner (Pipeline.entry 0)) ())) Q := by
  have hlift := (K (F := F)).wp_liftProg (D (F := F)) 𝒱 (SparseCore.T d) Set.univ none
    (Prog.op (.customCall (Pipeline.entry 0) ()) .ret : Prog (TpuEff nD τ sig (Elt F) (ΛP (F := F)) .tc) PUnit) Q
  have hreg := Pipeline.RegionSeg.wp (pcfgs (F := F)) adm (pdats b₀ (fun c b => val₂ m c b)) (default : HIx 1) phinj EP defs₀ 𝒱₀ (K (F := F)).L (K (F := F)).lev
    (reg b₀ (fun c b => val₂ m c b) (fun c b => val₃ m c b) (fun c => val₃_out m c) (fun c b h => val₃_of_ne m c b h)) d none
    (fun _ h => absurd h (by simp)) .ret Q
  dsimp only [reg] at hreg
  refine BIBase.Entails.trans ?_ (hreg.trans hlift)
  unfold G
  iintro ⟨⟨Hb, Hpre, Hl, Hg, Ht⟩, HQ⟩
  isplitl [HQ]
  · iintro H
    rw [wp_ret]
    imodintro
    iapply HQ $$ H
  isplitl [Hb]; · iexact Hb
  isplitl [Hpre]; · iexact Hpre
  isplitl [Hl]; · iexact Hl
  isplitl [Hg] <;> iassumption

/-- After the one SparseCore call the TensorCore owes nothing to any thread; the rest of its state is not looked at. -/
theorem tcSt_one (d : Dev nD) : ∃ (b₀ : ℕ) (R : sProp 𝕄), (K (F := F)).tcSt EH d 1 = iprop(lowOwes (F := F) b₀ d ∗ R) := by
  unfold SparseCore.Cfg.tcSt lowOwes
  rw [(K (F := F)).Otc_end d (le_refl 1)]
  exact ⟨_, _, rfl⟩

set_option backward.isDefEq.respectTransparency.types false in
/-- `@main` on a device's TensorCore. -/
theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  iintro ⟨#Hctx, Hst, ⟨Hb, Hub, Hts, -⟩, HG⟩
  iapply (wp_reshape d (op := toTable) (bufs_sub main_arg0 main_v0 (by decide)) rfl (val₀ m d))
  isplitl [Hb]; · iexact Hb
  isplitl [Hub]; · iexact Hub
  iintro ⟨Hb, Hub⟩
  iapply (wp_reshape d (op := toTargets) (bufs_sub main_arg1 main_v1 (by decide)) rfl (toTable.result (val₀ m d)))
  isplitl [Hb]; · iexact Hb
  isplitl [Hub]; · iexact Hub
  iintro ⟨Hb, Hub⟩
  iapply (wp_reshape d (op := toMask) (bufs_sub main_arg2 main_v2 (by decide)) rfl (toTargets.result (toTable.result (val₀ m d))))
  isplitl [Hb]; · iexact Hb
  isplitl [Hub]; · iexact Hub
  iintro ⟨Hb, Hub⟩
  ihave H := (show (unscopedBufs d (fun b : Ref sig .tc => toMask.result (toTargets.result (toTable.result (val₀ m d))) b) : sProp 𝕄) ⊢ _ from
    Entails.of_eq (open_call m d)) $$ Hub
  icases H with ⟨Hops, Hrest⟩
  iapply ((K (F := F)).wp_run (D (F := F)) 𝒱 (EH := EH) (P := Pm m) κ d 0) $$ [-]
  isplitr; · iexact Hctx
  isplitl [Hst]; · iexact Hst
  isplitl [Hops]; · rw [st0_eq]; iexact Hops
  iintro ⟨Hst, Hdn⟩
  ihave Hops := (Entails.of_eq (dn0_eq _ _ _ _ d)) $$ Hdn
  ihave Hub := (Entails.of_eq (close_call m d).symm) $$ [Hops Hrest]
  · isplitl [Hops] <;> iassumption
  obtain ⟨b₀, R, hR⟩ := tcSt_one (F := F) d
  ihave H := (show ((K (F := F)).tcSt EH d ((0 : Fin 1).val + 1) : sProp 𝕄) ⊢ _ from Entails.of_eq hR) $$ Hst
  icases H with ⟨HO, Hst⟩
  unfold SparseCore.Cfg.ctx
  icases Hctx with ⟨#Hlev, -⟩
  iapply (wp_call m d b₀) $$ [-]
  isplitl [Hb Hub HO HG]
  · isplitl [Hb]; · iexact Hb
    isplitl [Hub HO]
    · isplitl [Hub]; · iexact Hub
      iexact HO
    isplitr; · iexact Hlev
    iexact HG
  iintro ⟨Hb, Hub, HO⟩
  iapply (wp_reshape d (op := toScalar) (bufs_sub main_v4 main_v5 (by decide)) rfl (val₃ m d))
  isplitl [Hb]; · iexact Hb
  isplitl [Hub]; · iexact Hub
  iintro ⟨Hb, Hub⟩
  imodintro
  isplitl [HO Hst]
  · rw [hR]
    isplitl [HO]; · iexact HO
    iexact Hst
  isplitl [Hub]; · iexact Hub
  isplitl [Hb] <;> iassumption

/-! ## The final memory -/

/-- What the launch reads off a device's final memory. -/
def fq (d : Dev nD) (s' : Phys nD τ sig (Elt F)) : Prop := ∀ b : Ref sig .tc, b.isScoped = false → s'.mem.mem ((d : Thread nD τ).loc b) = val₄ m d b

/-- One buffer out of what the run leaves. -/
theorem FIN_at (d : Dev nD) (b : Ref sig .tc) (h : b.isScoped = false) : FIN m d ⊢ ((d : Thread nD τ).loc b ↦{fullShare} val₄ m d b : sProp 𝕄) := by
  unfold FIN unscopedBufs
  exact bigSep_elim (Φ := fun b : Ref sig .tc => ((d : Thread nD τ).loc b ↦{fullShare} val₄ m d b : sProp 𝕄))
    (Finset.mem_filter.mpr ⟨Finset.mem_univ b, by rw [h]; exact Bool.false_ne_true⟩)

/-- What the run leaves says what the memory holds. -/
theorem hfin (d : Dev nD) (s' : Phys nD τ sig (Elt F)) : iprop(FIN m d ∗ SI s') ⊢ (⌜fq m d s'⌝ : sProp 𝕄) := by
  refine BIBase.Entails.trans (forall_intro fun b : Ref sig .tc => ?_) pure_forall.2
  by_cases h : b.isScoped = false
  · iintro ⟨Hub, HSI⟩
    ihave Hb := (FIN_at m d b h) $$ Hub
    ihave H := (SI_pointsTo_agree (st := s') (ℓ := (d : Thread nD τ).loc b) (I := Finset.univ) (q := fullShare) (f := val₄ m d b)) $$ [HSI Hb]
    · isplitl [HSI] <;> iassumption
    icases H with %h1
    ipureintro; exact fun _ => funext fun i => h1 i (Finset.mem_univ i)
  · exact BIClass.pure_intro fun h' => absurd h' h

/-- What a run ends with: the result, the arguments as they were, every semaphore at zero. -/
def QC : PUnit × MemSt nD τ sig (Elt F) → Prop := fun r =>
  (∀ c : Dev nD, r.2.mem ((c : Thread nD τ).loc main_v5) = result m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) ∧ r.2.sem = fun _ => 0

/-- The kernel's run, from a launch memory whose targets are in range. -/
theorem run_main [∀ e, Nonempty (Elt F e)] (hpre : InRange (F := F) (targets m)) :
    θ_run (defs (F := F)) (threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl _ _ _ _ facts hpre)
    (fun q _ => match q with | 0 => SparseCore.Cfg.VecSplit.of_plain (vecSplit _ _ _ _))
    m ρ main (G (F := F)) (FIN m) (u₀ (F := F)) (sep_elim_left.trans (hu₀ _ _ _ _)) (hmain m ρ) (fq m) (hfin m) (QC m)
    (fun _ h hz => ⟨fun c => ⟨(h c main_v5 rfl).trans (val₄_result m c), (h c main_arg0 rfl).trans (val₄_arg m c _ (by decide)),
      (h c main_arg1 rfl).trans (val₄_arg m c _ (by decide)), (h c main_arg2 rfl).trans (val₄_arg m c _ (by decide))⟩, hz⟩)

end Cert.KernelIdeal.Run

end
-- ==== Proof.Frames.lean ====
/-
  What the preconditions say of the arguments, and the frames: from a launch memory whose targets are in range each
  program ends, with its arguments unchanged and every semaphore at zero.
-/
module

public import proofs.«01_k».proof.Proof.RunIdeal
public import proofs.«01_k».proof.Proof.Gen.Kernel
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_range_finite
public import Idealize.ShloMosaic.Lib.ReduceAll
public import Idealize.ShloMosaic.Lib.Quiescent
public import Idealize.ShloMosaic.Lib.StableHlo.Predicate

@[expose] public section

noncomputable section

namespace Cert.Proof

open Idealize.ShloMosaic Idealize.SL.Sem

variable {F : FTy → Type} [FloatOps F]

/-! ## What the preconditions say -/

/-- A scalar's two indices are one. -/
instance : Subsingleton (Cert.Pre_in_range.S_).Idx := ⟨fun a b => funext fun i => i.elim0⟩

/-- A conjunction of two bits is one exactly when both are. -/
theorem andi_one (a b : BitVec 1) : IntOp.andi a b = 1#1 ↔ a = 1#1 ∧ b = 1#1 := by
  revert a b; decide

/-- A word at least zero and below 32000, both read signed, is below 32000 read unsigned. -/
theorem word_lt (t : BitVec 32) (h : IntOp.andi (IntOp.cmpi .sge t 0#32) (IntOp.cmpi .slt t 32000#32) = 1#1) : t.toNat < 32000 := by
  obtain ⟨h0, h1⟩ := (andi_one _ _).mp h
  simp only [IntOp.cmpi, BitVec.sle_eq_decide, BitVec.slt_eq_decide, StableHlo.Predicate.ofBool_eq_one_iff, decide_eq_true_eq,
    BitVec.toInt_eq_toNat_cond, BitVec.toNat_ofNat, Nat.reducePow, Nat.reduceMod] at h0 h1
  omega

/-- The range precondition bounds every target. -/
theorem range_of_pre (x : FVec F Cert.Pre_in_range.S8x512x32000 .f32) (t : IVec Cert.Pre_in_range.S8x512 32)
    (k : FVec F Cert.Pre_in_range.S8x512 .f32) (h : Cert.Pre_in_range.fn x t k = fun _ => 1#1) (i : Cert.Pre_in_range.S8x512.Idx) :
    (t i).toNat < 32000 :=
  word_lt _ (Host.reduce_andi_all _ _ _ _ _ (congrFun h fun a => a.elim0) i)

/-- The finite precondition is the range precondition and two tests of finiteness. -/
theorem split_of_pre (x : FVec F Cert.Pre_in_range.S8x512x32000 .f32) (t : IVec Cert.Pre_in_range.S8x512 32)
    (k : FVec F Cert.Pre_in_range.S8x512 .f32) (h : Cert.Pre_in_range_finite.fn x t k = fun _ => 1#1) :
    Cert.Pre_in_range.fn x t k = (fun _ => 1#1)
    ∧ (∀ i, FloatOps.cmpf .olt (FloatOps.hostAbsf (x i)) (FloatOps.ofBits (F := F) .f32 0x7F800000#32) = 1#1)
    ∧ ∀ i, FloatOps.cmpf .olt (FloatOps.hostAbsf (k i)) (FloatOps.ofBits (F := F) .f32 0x7F800000#32) = 1#1 := by
  have h0 := congrFun h fun a => a.elim0
  obtain ⟨h1, hk⟩ := (andi_one _ _).mp h0
  obtain ⟨ht, hx⟩ := (andi_one _ _).mp h1
  exact ⟨funext fun j => (congrArg _ (Subsingleton.elim _ _)).trans ht, fun i => Host.reduce_andi_all _ _ _ _ _ hx i,
    fun i => Host.reduce_andi_all _ _ _ _ _ hk i⟩

/-! ## The kernel as printed and its idealized form are one program over two readings of the floats -/

/-- Both have the same bodies, -/
theorem defs₀_same : (Cert.KernelIdeal.defs₀ (F := F) : Defs Cert.Kernel.nD Cert.Kernel.τ Cert.Kernel.sig (Elt F) Cert.Kernel.Λ₀)
    = Cert.Kernel.defs₀ (F := F) := by
  funext t ℓ a
  match t, ℓ, a with
  | .scVector c s, 0, _ => rfl
  | .scVector c s, 1, _ => rfl
  | .tc, 0, _ => rfl
  | .tc, 1, (t, s) => rfl
  | .scScalar c, 0, _ => rfl
  | .scScalar c, 1, _ => rfl

/-- so the same definitions of what a core or a subcore can call, -/
theorem defs_same : (Cert.KernelIdeal.defs (F := F)) = Cert.Kernel.defs (F := F) := by
  show Cert.Kernel.sc.defs (Pipeline.defs Cert.Kernel.pcfgs Cert.KernelIdeal.defs₀)
    = Cert.Kernel.sc.defs (Pipeline.defs Cert.Kernel.pcfgs Cert.Kernel.defs₀)
  rw [← defs₀_same]

/-- and the same threads. -/
theorem threads_same : Cert.KernelIdeal.threads (F := F) = Cert.Kernel.threads (F := F) := rfl

/-! ## The frames -/

set_option maxHeartbeats 2000000 in
/-- The kernel as printed: from targets in range it ends, its arguments unchanged, every semaphore at zero. -/
theorem frame_kernel : Cert.quiescent_Kernel := by
  intro m ρ hpre
  have h := Cert.KernelIdeal.Run.run_main (F := Bits) m ρ fun d j => range_of_pre _ _ _ (hpre d) _
  rw [defs_same, threads_same] at h
  exact (θ_run Cert.Kernel.defs _ _).mono (fun r h => ⟨fun c => (h.1 c).2, h.2⟩) h

/-- The idealized kernel, from targets in range. -/
theorem frame_ideal : Cert.quiescent_KernelIdeal := fun m ρ hpre =>
  (θ_run Cert.KernelIdeal.defs _ _).mono (fun _ h => ⟨fun c => (h.1 c).2, h.2⟩)
    (Cert.KernelIdeal.Run.run_main (F := Ideal) m ρ fun d _ => range_of_pre _ _ _ (hpre d) _)

/-- The idealized kernel, from targets in range and finite floats. -/
theorem frame_ideal_finite : Cert.quiescent_KernelIdeal_pre_in_range_finite := fun m ρ hpre =>
  frame_ideal m ρ fun c => (split_of_pre _ _ _ (hpre c)).1

/-- The reference, from any launch memory. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference, from targets in range and finite floats. -/
theorem frame_reference_finite : Cert.quiescent_ReferenceIdeal_pre_in_range_finite := fun m ρ _ =>
  frame_reference m ρ trivial

end Cert.Proof

end
-- ==== Proof.RefValue.lean ====
/-
  The reference's result, read plainly: from targets in range, the sum over the rows and columns of the negated table
  entry that the target picks times the mask, over the sum of the mask and a small constant.
-/
module

public import proofs.«01_k».proof.Proof.Gen.ReferenceIdeal
public import proofs.«01_k».proof.Proof.Gen.ReferenceIdeal.Run
public import Idealize.ShloMosaic.Lib.ReduceAll
public import Idealize.ShloMosaic.Lib.IdealHost
public import Idealize.ShloMosaic.Lib.Pointwise.Index
public import Idealize.ShloMosaic.Lib.Pointwise.Reduce
public import Idealize.ShloMosaic.Lib.StableHlo.Predicate

@[expose] public section

noncomputable section

namespace Cert.ReferenceIdeal.Loss

open Cert.ReferenceIdeal Cert.ReferenceIdeal.Gen Idealize.ShloMosaic Idealize.SL.Sem

section Words

variable (t : IVec S8x512 32)

/-- The targets as a column, -/
def column : IVec S8x512x1 32 := broadcastInDim S8x512x1 ![0, 1] bcast_S8x512_S8x512x1_0_1 t

/-- a negative one counted from the end, -/
def wrapped : IVec S8x512x1 32 :=
  select (cmpi .slt (column t) (broadcastInDim S8x512x1 ![] bcast_S_S8x512x1 (constantI S_ 32 0#32)))
    (addi (column t) (broadcastInDim S8x512x1 ![] bcast_S_S8x512x1 (constantI S_ 32 32000#32))) (column t)

/-- as the start indices of the take; -/
def starts : IVec S8x512x1x1 32 := shapeCast S8x512x1x1 (wrapped t) shapeCasts_S8x512x1_S8x512x1x1

/-- whether each is a column of the table. -/
def inside : IVec S8x512x1 1 :=
  Host.reduce IntOp.andi (andi (cmpi .sge (starts t) (broadcastInDim S8x512x1x1 ![] bcast_S_S8x512x1x1 (constantI S_ 32 0#32)))
    (cmpi .sle (starts t) (broadcastInDim S8x512x1x1 ![0, 1, 2, 3] bcast_S1x1x1x1_S8x512x1x1_0_1_2_3
      (broadcastInDim S1x1x1x1 ![3] bcast_S1_S1x1x1x1_3 (constantI S1 32 31999#32))))) (constantI S_ 1 1#1) reducesTo_S8x512x1x1_S8x512x1_d3 h_S_

variable {t} (ht : ∀ i, (t i).toNat < 32000)
include ht

/-- The column's entries are targets, so each is below 32000. -/
theorem column_lt (y : S8x512x1.Idx) : (column t y).toNat < 32000 := ht _

/-- No target is negative, so none is counted from the end. -/
theorem wrapped_eq : wrapped t = column t := by
  funext y
  have h : ¬ IntOp.cmpi .slt (column t y) 0#32 = 1#1 := by
    rw [StableHlo.Predicate.slt_iff_toNat (by have := column_lt ht y; omega) (by decide)]
    exact Nat.not_lt_zero _
  exact if_neg h

/-- The start index of a row and a column is the target there. -/
theorem starts_apply (j : S8x512x1x1.Idx) : starts t j = t (ix2 (n0 := 8) (n1 := 512) (j 0) (j 1)) := by
  have e : Shape.reshapeEquiv shapeCasts_S8x512x1_S8x512x1x1 j = ix3 (n0 := 8) (n1 := 512) (n2 := 1) (j 0) (j 1) 0 := by
    refine Shape.reshapeEquiv_eq_of_rowMajor _ ?_
    rw [Shape.rowMajor_val_three, Shape.rowMajor_val_four]
    have h2 : (j 2).val < 1 := (j 2).isLt
    have h3 : (j 3).val < 1 := (j 3).isLt
    show ((j 0).val * 512 + (j 1).val) * 1 + 0 = (((j 0).val * 512 + (j 1).val) * 1 + (j 2).val) * 1 + (j 3).val
    omega
  show wrapped t (Shape.reshapeEquiv shapeCasts_S8x512x1_S8x512x1x1 j) = _
  rw [wrapped_eq ht, e]
  refine congrArg t (funext fun a => ?_)
  match a with
  | 0 => rfl
  | 1 => rfl

/-- Every target is a column of the table. -/
theorem inside_one (y : S8x512x1.Idx) : inside t y = 1#1 := by
  refine Host.reduce_andi_one _ _ _ _ _ rfl fun i => ?_
  have hlt : (starts t i).toNat < 32000 := by rw [starts_apply ht]; exact ht _
  have h0 : IntOp.cmpi .sge (starts t i) 0#32 = 1#1 :=
    (StableHlo.Predicate.sge_iff_toNat (by omega) (by decide)).mpr (Nat.zero_le _)
  have h1 : IntOp.cmpi .sle (starts t i) 31999#32 = 1#1 :=
    (StableHlo.Predicate.sle_iff_toNat (by omega) (by decide)).mpr (by show _ ≤ 31999; omega)
  show IntOp.andi (IntOp.cmpi .sge (starts t i) 0#32) (IntOp.cmpi .sle (starts t i) 31999#32) = 1#1
  rw [h0, h1]; rfl

end Words

/-- The table entry that the target of a row and a column picks. -/
def pick {α : Type} (x : S8x512x32000.Idx → α) (t : IVec S8x512 32) (n : Fin 8) (i : Fin 512) : α :=
  x (ix3 n i ⟨(t (ix2 n i)).toNat % 32000, Nat.mod_lt _ (by decide)⟩)

/-- The take's element at a row and a column, from targets in range. -/
theorem gather_apply {α : Type} (x : S8x512x32000.Idx → α) {t : IVec S8x512 32} (ht : ∀ i, (t i).toNat < 32000) (n : Fin 8) (i : Fin 512) :
    Host.gather gather_S8x512x32000_S8x512x1x1_S8x512x1_n_2_01_01_2_3_111 x (starts t) (ix3 (n0 := 8) (n1 := 512) (n2 := 1) n i 0) = pick x t n i := by
  refine congrArg x (funext fun a => Fin.ext ?_)
  match a with
  | 0 => show 0 + n.val + 0 = n.val; omega
  | 1 => show 0 + i.val + 0 = i.val; omega
  | 2 =>
    show min (starts t _).toInt.toNat (32000 - 1) + 0 + 0 = (t (ix2 n i)).toNat % 32000
    rw [starts_apply ht]
    show min (t (ix2 n i)).toInt.toNat (32000 - 1) + 0 + 0 = (t (ix2 n i)).toNat % 32000
    have h := ht (ix2 n i)
    rw [StableHlo.Predicate.toInt_eq_toNat_of_lt (by omega)]
    omega

/-- The reference's gathered values, with what it puts where a target is no column of the table. -/
def gathered {F : FTy → Type} [FloatOps F] (x : FVec F S8x512x32000 .f32) (t : IVec S8x512 32) : FVec F S8x512 .f32 :=
  shapeCast S8x512 (select (inside t) (Host.gather gather_S8x512x32000_S8x512x1x1_S8x512x1_n_2_01_01_2_3_111 x (starts t))
    (broadcastInDim S8x512x1 ![] bcast_S_S8x512x1 (constant S_ .f32 0x7FC00000#32))) shapeCasts_S8x512x1_S8x512

/-- From targets in range it gathers the entries they pick. -/
theorem gathered_apply {F : FTy → Type} [FloatOps F] (x : FVec F S8x512x32000 .f32) {t : IVec S8x512 32} (ht : ∀ i, (t i).toNat < 32000)
    (n : Fin 8) (i : Fin 512) : gathered x t (ix2 n i) = pick x t n i := by
  have e : Shape.reshapeEquiv shapeCasts_S8x512x1_S8x512 (ix2 n i) = ix3 (n0 := 8) (n1 := 512) (n2 := 1) n i 0 := by
    refine Shape.reshapeEquiv_eq_of_rowMajor _ ?_
    rw [Shape.rowMajor_val_three, Shape.rowMajor_val_two]
    show (n.val * 512 + i.val) * 1 + 0 = n.val * 512 + i.val
    omega
  show Scalar.select (inside t (Shape.reshapeEquiv shapeCasts_S8x512x1_S8x512 (ix2 n i))) _ _ = _
  rw [inside_one ht, e, gather_apply x ht]
  rfl

/-- The reference's result. -/
def loss {F : FTy → Type} [FloatOps F] (x : FVec F S8x512x32000 .f32) (t : IVec S8x512 32) (k : FVec F S8x512 .f32) : FVec F S_ .f32 :=
  Host.divf (Host.reduceAdd (mulf (Host.negf (gathered x t)) k) (constant S_ .f32 0x00000000#32) reducesTo_S8x512_S_d0_1 h_S_)
    (addf (Host.reduceAdd k (constant S_ .f32 0x00000000#32) reducesTo_S8x512_S_d0_1 h_S_) (constant S_ .f32 0x358637BD#32))

/-- Read plainly, over the extended reals. -/
theorem loss_apply (x : FVec Ideal S8x512x32000 .f32) {t : IVec S8x512 32} (ht : ∀ i, (t i).toNat < 32000) (k : FVec Ideal S8x512 .f32) (j : S_.Idx) :
    loss x t k j = Ideal.div (∑ n : Fin 8, ∑ i : Fin 512, -(pick x t n i : EReal) * (k (ix2 n i) : EReal))
      ((∑ n : Fin 8, ∑ i : Fin 512, (k (ix2 n i) : EReal)) + Ideal.ofBits .f32 0x358637BD#32) := by
  have h0 : Ideal.ofBits .f32 0x00000000#32 = 0 := by simp [Ideal.ofBits, Ideal.ieee]
  have h (v : FVec Ideal S8x512 .f32) : Host.reduceAdd v (constant S_ .f32 0x00000000#32) reducesTo_S8x512_S_d0_1 h_S_ j
      = ∑ n : Fin 8, ∑ i : Fin 512, (v (ix2 n i) : EReal) := by
    rw [Host.reduceAdd_apply, Ideal.hostReduceAdd_def, Ideal.hostReduceAdd_r2_a01]
    show Ideal.ofBits .f32 0x00000000#32 + _ = _
    rw [h0, zero_add]
  refine (congrArg₂ Ideal.div (h _) (congrArg (fun u : EReal => u + Ideal.ofBits .f32 0x358637BD#32) (h k))).trans ?_
  refine congrArg₂ Ideal.div (Finset.sum_congr rfl fun n _ => Finset.sum_congr rfl fun i _ => ?_) rfl
  show -(gathered x t (ix2 n i) : EReal) * _ = _
  rw [gathered_apply x ht]

/-- The reference's run, its result at `loss` of its arguments. -/
theorem run_loss {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8) = loss (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.ReferenceIdeal.Loss

end
-- ==== Proof.Value.lean ====
/-
  The kernel's result is the reference's, over the extended reals, from targets in range and finite floats: the kernel
  adds the same products up in another order and negates their sum where the reference negates each table entry.
-/
module

public import proofs.«01_k».proof.Proof.Frames
public import proofs.«01_k».proof.Proof.RefValue
public import Mathlib.Algebra.BigOperators.Fin

@[expose] public section

noncomputable section

namespace Cert.Proof

open Idealize.ShloMosaic Idealize.SL.Sem
open Cert.KernelIdeal Cert.KernelIdeal.Gen Cert.KernelIdeal.Run
open Cert.ReferenceIdeal.Loss (pick loss loss_apply run_loss)

/-! ## The kernel's result, read plainly -/

/-- The word of zero is zero. -/
theorem ofBits_zero : Ideal.ofBits .f32 0x00000000#32 = 0 := by simp [Ideal.ofBits, Ideal.ieee]

/-- Eight values added in order from zero are their sum. -/
theorem chain8_eq (f : Fin 8 → EReal) : chain8 (F := Ideal) f = ∑ k, f k := by
  rw [Fin.sum_univ_eight]
  show Ideal.ofBits .f32 0x00000000#32 + f 0 + f 1 + f 2 + f 3 + f 4 + f 5 + f 6 + f 7 = _
  rw [ofBits_zero, zero_add]

/-- The body's sum of one row of the partial sums' middle axis. -/
theorem sum_row (v : FVec Ideal S32x1x16 .f32) :
    extractAt ![0, 0, 0] (shapeCast S1x1x1 (multiReduction .add [1, 2] S1 (shapeCast S1x32x16 (shapeCast S32x16 v shapeCasts_S32x1x16_S32x16)
      shapeCasts_S32x16_S1x32x16) 0x00000000#32 reduces_S1x32x16_S1 (.inl rfl) rfl) shapeCasts_S1_S1x1x1) inpos_S1x1x1_p0_0_0
    = ∑ w : Fin 32, ∑ l : Fin 16, (v (ix3 w 0 l) : EReal) := by
  have e1 (w : Fin 32) (l : Fin 16) (z : Fin 1) : Shape.reshapeEquiv shapeCasts_S32x16_S1x32x16 (ix3 z w l) = ix2 w l := by
    refine Shape.reshapeEquiv_eq_of_rowMajor _ ?_
    rw [Shape.rowMajor_val_three, Shape.rowMajor_val_two]
    show w.val * 16 + l.val = (z.val * 32 + w.val) * 16 + l.val
    omega
  have e2 (w : Fin 32) (l : Fin 16) : Shape.reshapeEquiv shapeCasts_S32x1x16_S32x16 (ix2 w l) = ix3 w (0 : Fin 1) l := by
    refine Shape.reshapeEquiv_eq_of_rowMajor _ ?_
    rw [Shape.rowMajor_val_three, Shape.rowMajor_val_two]
    show (w.val * 1 + 0) * 16 + l.val = w.val * 16 + l.val
    omega
  refine (Ideal.reduceAdd_r3_a12 reduces_S1x32x16_S1 _ _).trans ?_
  refine Finset.sum_congr rfl fun w _ => Finset.sum_congr rfl fun l _ => ?_
  show v (Shape.reshapeEquiv shapeCasts_S32x1x16_S32x16 (Shape.reshapeEquiv shapeCasts_S32x16_S1x32x16 _)) = _
  rw [e1, e2]

/-- The quotient of any partial sums. -/
theorem quotient_apply (x : S32x2x16.Idx → EReal) (y : S1x1.Idx) :
    quotient (F := Ideal) x y = Ideal.div (0 - ∑ w : Fin 32, ∑ l : Fin 16, x (ix3 w 0 l))
      ((∑ w : Fin 32, ∑ l : Fin 16, x (ix3 w 1 l)) + Ideal.ofBits .f32 0x358637BD#32) := by
  have hr (r : Fin 2) (w : Fin 32) (l : Fin 16) : midRow (F := Ideal) r x (ix3 w 0 l) = x (ix3 w r l) := by
    refine congrArg x (funext fun a => ?_)
    match a with
    | 0 => rfl
    | 1 => rfl
    | 2 => rfl
  refine (congrArg₂ (fun a b : EReal => Ideal.div (Ideal.ofBits .f32 0x00000000#32 - a) (b + Ideal.ofBits .f32 0x358637BD#32))
    (sum_row (midRow (F := Ideal) 0 x)) (sum_row (midRow (F := Ideal) 1 x))).trans ?_
  simp only [hr, ofBits_zero]

/-! ## One order of the sum and the other -/

/-- The rows of the table, counted task by task, lane by lane, or batch by batch. -/
def regroup : (Fin 32 × Fin 16) × Fin 8 ≃ Fin 8 × Fin 512 where
  toFun p := (⟨(128 * p.1.1.val + (16 * p.2.val + p.1.2.val)) / 512, by omega⟩, ⟨(128 * p.1.1.val + (16 * p.2.val + p.1.2.val)) % 512, by omega⟩)
  invFun q := ((⟨(512 * q.1.val + q.2.val) / 128, by omega⟩, ⟨(512 * q.1.val + q.2.val) % 16, by omega⟩), ⟨(512 * q.1.val + q.2.val) % 128 / 16, by omega⟩)
  left_inv p := by
    refine Prod.ext (Prod.ext (Fin.ext ?_) (Fin.ext ?_)) (Fin.ext ?_)
    all_goals dsimp only; omega
  right_inv q := by
    refine Prod.ext (Fin.ext ?_) (Fin.ext ?_)
    all_goals dsimp only; omega

/-- A sum in the one order is the sum in the other. -/
theorem sum_regroup (f : Fin 8 → Fin 512 → EReal) :
    ∑ w : Fin 32, ∑ l : Fin 16, ∑ k : Fin 8, f (regroup ((w, l), k)).1 (regroup ((w, l), k)).2 = ∑ n, ∑ i, f n i := by
  have h := Equiv.sum_comp regroup fun q => f q.1 q.2
  simp only [Fintype.sum_prod_type] at h
  exact h

variable (m : (ℓ : Loc nD τ sig) → Buf (Elt Ideal) ℓ) (d : Dev nD)

/-- The kernel's log probabilities, -/
abbrev xOf : S8x512x32000.Idx → EReal := m ((d.tc : Thread nD τ).loc main_arg0)
/-- targets -/
abbrev tOf : IVec S8x512 32 := m ((d.tc : Thread nD τ).loc main_arg1)
/-- and mask. -/
abbrev kOf : S8x512.Idx → EReal := m ((d.tc : Thread nD τ).loc main_arg2)

/-- The row that a task's lane comes to at its `k`-th step, in the batched shape. -/
theorem pos_reshape (w : Fin 32) (l : Fin 16) (k : Fin 8) :
    Shape.reshapeEquiv shapeCasts_S8x512_S4096 (pos w (place k l)) = ix2 (regroup ((w, l), k)).1 (regroup ((w, l), k)).2 := by
  refine Shape.reshapeEquiv_eq_of_rowMajor _ ?_
  rw [Shape.rowMajor_val_one, Shape.rowMajor_val_two]
  show (128 * w.val + (16 * k.val + l.val)) / 512 * 512 + (128 * w.val + (16 * k.val + l.val)) % 512 = 128 * w.val + (16 * k.val + l.val)
  omega

/-- The mask's value there. -/
theorem mask_pos (w : Fin 32) (l : Fin 16) (k : Fin 8) :
    maskOf m d (pos w (place k l)) = kOf m d (ix2 (regroup ((w, l), k)).1 (regroup ((w, l), k)).2) :=
  congrArg (kOf m d) (pos_reshape w l k)

/-- Row `p` and column `t` of the flattened table: nothing wraps around. -/
theorem place_nat (p t : ℕ) (hp : p < 4096) (ht : t < 32000) :
    (p / 512 * 512 + p % 512) * 32000 + t % 32000 = ((p % 2 ^ 32 * (32000 % 2 ^ 32)) % 2 ^ 32 + t) % 2 ^ 32 % 131072000 := by
  rw [Nat.mod_eq_of_lt (show p < 2 ^ 32 by omega), Nat.mod_eq_of_lt (show 32000 < 2 ^ 32 by omega),
    Nat.mod_eq_of_lt (show p * 32000 < 2 ^ 32 by omega), Nat.mod_eq_of_lt (show p * 32000 + t < 2 ^ 32 by omega),
    Nat.mod_eq_of_lt (show p * 32000 + t < 131072000 by omega)]
  omega

/-- From targets in range, what a task finds is the entry that the target picks. -/
theorem found_eq (ht : ∀ i, (tOf m d i).toNat < 32000) (w : Fin 32) (l : Fin 16) (k : Fin 8) :
    found (F := Ideal) (table m d) (targets m d) w (place k l) = pick (xOf m d) (tOf m d) (regroup ((w, l), k)).1 (regroup ((w, l), k)).2 := by
  have hT : targets m d (pos w (place k l)) = tOf m d (ix2 (regroup ((w, l), k)).1 (regroup ((w, l), k)).2) :=
    congrArg (tOf m d) (pos_reshape w l k)
  have hlt := ht (ix2 (regroup ((w, l), k)).1 (regroup ((w, l), k)).2)
  refine congrArg (xOf m d) (Shape.reshapeEquiv_eq_of_rowMajor (s := S8x512x32000) (s' := S131072000) _ ?_)
  refine (Shape.rowMajor_val_three _).trans (Eq.trans ?_ (Shape.rowMajor_val_one _).symm)
  show ((128 * w.val + (16 * k.val + l.val)) / 512 * 512 + (128 * w.val + (16 * k.val + l.val)) % 512) * 32000
      + (tOf m d (ix2 (regroup ((w, l), k)).1 (regroup ((w, l), k)).2)).toNat % 32000
    = (BitVec.ofNat 32 (128 * w.val + (16 * k.val + l.val)) * 32000#32 + targets m d (pos w (place k l))).toNat % 131072000
  rw [hT, BitVec.toNat_add, BitVec.toNat_mul, BitVec.toNat_ofNat, BitVec.toNat_ofNat]
  exact place_nat _ _ (by omega) hlt

/-- A task's partial sum of the products, lane by lane. -/
theorem products_apply (ht : ∀ i, (tOf m d i).toNat < 32000) (w : Fin 32) (l : Fin 16) :
    sums (F := Ideal) (table m) (targets m) (maskOf m) d (ix3 w (0 : Fin 2) l)
      = ∑ k : Fin 8, pick (xOf m d) (tOf m d) (regroup ((w, l), k)).1 (regroup ((w, l), k)).2 * kOf m d (ix2 (regroup ((w, l), k)).1 (regroup ((w, l), k)).2) := by
  refine (if_pos rfl).trans ((chain8_eq _).trans (Finset.sum_congr rfl fun k _ => ?_))
  exact congrArg₂ (fun a b : EReal => a * b) (found_eq m d ht w l k) (mask_pos m d w l k)

/-- A task's partial sum of the mask, lane by lane. -/
theorem masks_apply (w : Fin 32) (l : Fin 16) :
    sums (F := Ideal) (table m) (targets m) (maskOf m) d (ix3 w (1 : Fin 2) l)
      = ∑ k : Fin 8, kOf m d (ix2 (regroup ((w, l), k)).1 (regroup ((w, l), k)).2) :=
  (if_neg Nat.one_ne_zero).trans ((chain8_eq _).trans (Finset.sum_congr rfl fun k _ => mask_pos m d w l k))

/-- The kernel's result, read plainly. -/
theorem result_apply (ht : ∀ i, (tOf m d i).toNat < 32000) (j : S_.Idx) :
    result m d j = Ideal.div (0 - ∑ n : Fin 8, ∑ i : Fin 512, (pick (xOf m d) (tOf m d) n i) * kOf m d (ix2 n i))
      ((∑ n : Fin 8, ∑ i : Fin 512, kOf m d (ix2 n i)) + Ideal.ofBits .f32 0x358637BD#32) := by
  refine (quotient_apply _ (Shape.reshapeEquiv shapeCasts_S1x1_S_ j)).trans ?_
  exact congrArg₂ (fun a b : EReal => Ideal.div (0 - a) (b + Ideal.ofBits .f32 0x358637BD#32))
    (Eq.trans (Finset.sum_congr rfl fun w _ => Finset.sum_congr rfl fun l _ => products_apply m d ht w l)
      (sum_regroup fun n i => pick (xOf m d) (tOf m d) n i * kOf m d (ix2 n i)))
    (Eq.trans (Finset.sum_congr rfl fun w _ => Finset.sum_congr rfl fun l _ => masks_apply m d w l) (sum_regroup fun n i => kOf m d (ix2 n i)))

/-! ## Finite values -/

/-- A value whose absolute value is below infinity is a real number. -/
theorem real_of_finite (x : Ideal .f32) (h : FloatOps.cmpf .olt (FloatOps.hostAbsf x) (FloatOps.ofBits (F := Ideal) .f32 0x7F800000#32) = 1#1) :
    ∃ r : ℝ, (x : EReal) = r := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  simp only [Ideal.cmp, StableHlo.Predicate.ofBool_eq_one_iff, decide_eq_true_eq, max_lt_iff] at h'
  refine ⟨EReal.toReal x, (EReal.coe_toReal h'.1.ne ?_).symm⟩
  intro hb
  rw [hb] at h'
  exact absurd h'.2 (by simp)

/-- Over real values the negated sum is the sum of the negated. -/
theorem neg_sum_real {ι : Type} (s : Finset ι) (f : ι → EReal) (hf : ∀ i, ∃ r : ℝ, f i = r) :
    (∃ r : ℝ, ∑ i ∈ s, f i = r) ∧ -∑ i ∈ s, f i = ∑ i ∈ s, -f i := by
  classical
  induction s using Finset.induction_on with
  | empty => exact ⟨⟨0, by simp⟩, by simp⟩
  | insert a s ha ih =>
    obtain ⟨⟨r, hr⟩, hn⟩ := ih
    obtain ⟨q, hq⟩ := hf a
    rw [Finset.sum_insert ha, Finset.sum_insert ha, ← hn, hr, hq]
    exact ⟨⟨q + r, by norm_cast⟩, by norm_cast; ring⟩

/-- The two numerators agree over real values. -/
theorem numerators (f g : Fin 8 → Fin 512 → EReal) (hf : ∀ n i, ∃ r : ℝ, f n i = r) (hg : ∀ n i, ∃ r : ℝ, g n i = r) :
    0 - ∑ n, ∑ i, f n i * g n i = ∑ n, ∑ i, -f n i * g n i := by
  have hp (n : Fin 8) (i : Fin 512) : ∃ r : ℝ, f n i * g n i = r := by
    obtain ⟨a, ha⟩ := hf n i; obtain ⟨b, hb⟩ := hg n i
    exact ⟨a * b, by rw [ha, hb]; norm_cast⟩
  have hin (n : Fin 8) := neg_sum_real Finset.univ (fun i => f n i * g n i) (hp n)
  rw [zero_sub, (neg_sum_real Finset.univ _ fun n => (hin n).1).2]
  exact Finset.sum_congr rfl fun n _ => (hin n).2.trans (Finset.sum_congr rfl fun i _ => (EReal.neg_mul _ _).symm)

/-- The kernel's result is the reference's. -/
theorem result_eq_loss (hpre : Cert.Pre_in_range_finite.fn (F := Ideal) (xOf m d) (tOf m d) (kOf m d) = fun _ => 1#1) :
    result m d = loss (F := Ideal) (xOf m d) (tOf m d) (kOf m d) := by
  obtain ⟨hr, hx, hk⟩ := split_of_pre (F := Ideal) _ _ _ hpre
  have ht := range_of_pre (F := Ideal) _ _ _ hr
  funext j
  rw [result_apply m d ht j, numerators (pick (xOf m d) (tOf m d)) (fun n i => kOf m d (ix2 n i)) (fun n i => real_of_finite _ (hx _)) fun n i => real_of_finite _ (hk _)]
  exact (loss_apply (xOf m d) ht (kOf m d) j).symm

/-- From targets in range and finite floats, the idealized kernel and the reference end with one result, over the extended reals. -/
theorem algebraic : Cert.algebraic_KernelIdeal_ReferenceIdeal_pre_in_range_finite := by
  intro m ρ m' ρ' hpre hagree
  refine ⟨result m, ?_, ?_⟩
  · exact (θ_run Cert.KernelIdeal.defs _ _).mono (fun _ h c => h.1 c)
      (run_main (F := Ideal) m ρ fun d _ => range_of_pre (F := Ideal) _ _ _ (split_of_pre (F := Ideal) _ _ _ (hpre d)).1 _)
  · refine (θ_run Cert.ReferenceIdeal.defs _ _).mono (fun _ h c => ⟨(h c).1.trans ?_, (h c).2⟩) (run_loss (F := Ideal) m' ρ')
    rw [(hagree c).1, (hagree c).2.1, (hagree c).2.2]
    exact (result_eq_loss m c (hpre c)).symm

end Cert.Proof

end
-- ==== Proof.lean ====
/-
  The certificate: the kernel as printed, the idealized kernel and the reference each end with their arguments unchanged
  and every semaphore at zero; the idealized kernel is the kernel; and from targets in range and finite floats the
  idealized kernel and the reference end with one result, over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_in_range
public import proofs.«01_k».proof.Proof.Gen.Pre_in_range_finite
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Pre_in_range.Gen.facts, Cert.Pre_in_range_finite.Gen.facts,
    frame_kernel, frame_ideal, frame_ideal_finite, frame_reference, frame_reference_finite, trivial, algebraic⟩

end Cert.Proof

end
